-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_as_initialised [hPre_as_initialised : Cert.Pre_as_initialised.Facts] (m : (ℓ : Loc Cert.KernelIdeal.nD Cert.KernelIdeal.τ Cert.KernelIdeal.sig) → Buf (Elt Ideal) ℓ) : Prop :=
  ∀ c : Dev Cert.KernelIdeal.nD,
    (Cert.Pre_as_initialised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_as_initialised [hPre_as_initialised : Cert.Pre_as_initialised.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_as_initialised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_as_initialised [hKernelIdeal : Cert.KernelIdeal.Facts] [hPre_as_initialised : Cert.Pre_as_initialised.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_as_initialised m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_as_initialised [hReferenceIdeal : Cert.ReferenceIdeal.Facts] [hPre_as_initialised : Cert.Pre_as_initialised.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_as_initialised m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "rsqrt2" .f32 0x3F3504F3#32 (((Real.sqrt 2)⁻¹ : ℝ) : EReal)
  ∧ IdealRules.named_const.Statement Cert.KernelIdeal.κ "inv_d" .f32 0x3AAAAAAB#32 ((768⁻¹ : ℝ) : EReal)

def algebraic_KernelIdeal_ReferenceIdeal_pre_as_initialised [hKernelIdeal : Cert.KernelIdeal.Facts] [hReferenceIdeal : Cert.ReferenceIdeal.Facts] [hPre_as_initialised : Cert.Pre_as_initialised.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_as_initialised m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_as_initialised : Cert.Pre_as_initialised.Facts),
    quiescent_Kernel (hKernel := hKernel)
    ∧ quiescent_KernelIdeal (hKernelIdeal := hKernelIdeal)
    ∧ quiescent_KernelIdeal_pre_as_initialised (hKernelIdeal := hKernelIdeal) (hPre_as_initialised := hPre_as_initialised)
    ∧ quiescent_ReferenceIdeal (hReferenceIdeal := hReferenceIdeal)
    ∧ quiescent_ReferenceIdeal_pre_as_initialised (hReferenceIdeal := hReferenceIdeal) (hPre_as_initialised := hPre_as_initialised)
    ∧ preserves_Kernel_KernelIdeal
    ∧ algebraic_KernelIdeal_ReferenceIdeal_pre_as_initialised (hKernelIdeal := hKernelIdeal) (hReferenceIdeal := hReferenceIdeal) (hPre_as_initialised := hPre_as_initialised)
-- ==== Pre_as_initialised.lean ====
abbrev S4x2048 : Shape := ⟨2, ![4, 2048]⟩
abbrev S4 : Shape := ⟨1, ![4]⟩
abbrev S8x192 : Shape := ⟨2, ![8, 192]⟩
abbrev S33x192 : Shape := ⟨2, ![33, 192]⟩
abbrev S1x192 : Shape := ⟨2, ![1, 192]⟩
abbrev S192 : Shape := ⟨1, ![192]⟩
abbrev S768x768 : Shape := ⟨2, ![768, 768]⟩
abbrev S768 : Shape := ⟨1, ![768]⟩
abbrev S_ : Shape := ⟨0, ![]⟩

class Facts : Prop where
  bcast_S_S8x192 : S_.BroadcastsInDim S8x192 (![] : Fin 0 → Fin S8x192.rank)
  reducesTo_S8x192_S_d0_1 : S8x192.ReducesTo [0, 1] S_
  h_S_ : 0 < S_.numel
  bcast_S_S33x192 : S_.BroadcastsInDim S33x192 (![] : Fin 0 → Fin S33x192.rank)
  reducesTo_S33x192_S_d0_1 : S33x192.ReducesTo [0, 1] S_
  bcast_S_S1x192 : S_.BroadcastsInDim S1x192 (![] : Fin 0 → Fin S1x192.rank)
  reducesTo_S1x192_S_d0_1 : S1x192.ReducesTo [0, 1] S_
  bcast_S_S768x768 : S_.BroadcastsInDim S768x768 (![] : Fin 0 → Fin S768x768.rank)
  reducesTo_S768x768_S_d0_1 : S768x768.ReducesTo [0, 1] S_
  bcast_S_S192 : S_.BroadcastsInDim S192 (![] : Fin 0 → Fin S192.rank)
  reducesTo_S192_S_d0 : S192.ReducesTo [0] S_
  bcast_S_S768 : S_.BroadcastsInDim S768 (![] : Fin 0 → Fin S768.rank)
  reducesTo_S768_S_d0 : S768.ReducesTo [0] S_

variable [Facts]

def fn_part2 {F : FTy → Type} [FloatOps F] (main_arg11 : FVec F S768 .f32) (main_arg12 : FVec F S768 .f32) (main_v31 : IVec S_ 1) (main_v32 : FVec F S768 .f32) : IVec S_ 1 :=
  let main_v33 : IVec S768 1 := cmpf .oeq main_arg11 main_v32
  let main_c_13 : IVec S_ 1 := constantI S_ 1 1#1
  let main_v34 : IVec S_ 1 := (fun x v => Host.reduce IntOp.andi x v reducesTo_S768_S_d0 h_S_) main_v33 main_c_13
  let main_v35 : IVec S_ 1 := andi main_v31 main_v34
  let main_cst_14 : FVec F S_ .f32 := constant S_ .f32 0x00000000#32
  let main_v36 : FVec F S768 .f32 := broadcastInDim S768 ![] bcast_S_S768 main_cst_14
  let main_v37 : IVec S768 1 := cmpf .oeq main_arg12 main_v36
  let main_c_15 : IVec S_ 1 := constantI S_ 1 1#1
  let main_v38 : IVec S_ 1 := (fun x v => Host.reduce IntOp.andi x v reducesTo_S768_S_d0 h_S_) main_v37 main_c_15
  let main_v39 : IVec S_ 1 := andi main_v35 main_v38
  main_v39

def fn_part1 {F : FTy → Type} [FloatOps F] (main_arg8 : FVec F S192 .f32) (main_arg9 : FVec F S768x768 .f32) (main_arg10 : FVec F S768 .f32) (main_arg11 : FVec F S768 .f32) (main_arg12 : FVec F S768 .f32) (main_v13 : IVec S_ 1) (main_v16 : IVec S1x192 1) : IVec S_ 1 :=
  let main_c_5 : IVec S_ 1 := constantI S_ 1 1#1
  let main_v17 : IVec S_ 1 := (fun x v => Host.reduce IntOp.andi x v reducesTo_S1x192_S_d0_1 h_S_) main_v16 main_c_5
  let main_v18 : IVec S_ 1 := andi main_v13 main_v17
  let main_v19 : FVec F S768x768 .f32 := Host.absf main_arg9
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  let main_cst_8 : FVec F S_ .f32 := constant S_ .f32 0x00000000#32
  let main_v24 : FVec F S192 .f32 := broadcastInDim S192 ![] bcast_S_S192 main_cst_8
  let main_v25 : IVec S192 1 := cmpf .oeq main_arg8 main_v24
  let main_c_9 : IVec S_ 1 := constantI S_ 1 1#1
  let main_v26 : IVec S_ 1 := (fun x v => Host.reduce IntOp.andi x v reducesTo_S192_S_d0 h_S_) main_v25 main_c_9
  let main_v27 : IVec S_ 1 := andi main_v23 main_v26
  let main_cst_10 : FVec F S_ .f32 := constant S_ .f32 0x00000000#32
  let main_v28 : FVec F S768 .f32 := broadcastInDim S768 ![] bcast_S_S768 main_cst_10
  let main_v29 : IVec S768 1 := cmpf .oeq main_arg10 main_v28
  let main_c_11 : IVec S_ 1 := constantI S_ 1 1#1
  let main_v30 : IVec S_ 1 := (fun x v => Host.reduce IntOp.andi x v reducesTo_S768_S_d0 h_S_) main_v29 main_c_11
  let main_v31 : IVec S_ 1 := andi main_v27 main_v30
  let main_cst_12 : FVec F S_ .f32 := constant S_ .f32 0x3F800000#32
  let main_v32 : FVec F S768 .f32 := broadcastInDim S768 ![] bcast_S_S768 main_cst_12
  fn_part2 (F := F) main_arg11 main_arg12 main_v31 main_v32

def fn {F : FTy → Type} [FloatOps F] (main_arg0 : IVec S4x2048 32) (main_arg1 : IVec S4x2048 32) (main_arg2 : IVec S4 32) (main_arg3 : IVec S4x2048 1) (main_arg4 : FVec F S8x192 .f32) (main_arg5 : FVec F S33x192 .f32) (main_arg6 : FVec F S8x192 .f32) (main_arg7 : FVec F S1x192 .f32) (main_arg8 : FVec F S192 .f32) (main_arg9 : FVec F S768x768 .f32) (main_arg10 : FVec F S768 .f32) (main_arg11 : FVec F S768 .f32) (main_arg12 : FVec F S768 .f32) : IVec S_ 1 :=
  let main_v0 : FVec F S8x192 .f32 := Host.absf main_arg4
  let main_cst : FVec F S_ .f32 := constant S_ .f32 0x7F800000#32
  let main_v1 : FVec F S8x192 .f32 := broadcastInDim S8x192 ![] bcast_S_S8x192 main_cst
  let main_v2 : IVec S8x192 1 := cmpf .olt main_v0 main_v1
  let main_c : IVec S_ 1 := constantI S_ 1 1#1
  let main_v3 : IVec S_ 1 := (fun x v => Host.reduce IntOp.andi x v reducesTo_S8x192_S_d0_1 h_S_) main_v2 main_c
  let main_v4 : FVec F S33x192 .f32 := Host.absf main_arg5
  let main_cst_0 : FVec F S_ .f32 := constant S_ .f32 0x7F800000#32
  let main_v5 : FVec F S33x192 .f32 := broadcastInDim S33x192 ![] bcast_S_S33x192 main_cst_0
  let main_v6 : IVec S33x192 1 := cmpf .olt main_v4 main_v5
  let main_c_1 : IVec S_ 1 := constantI S_ 1 1#1
  let main_v7 : IVec S_ 1 := (fun x v => Host.reduce IntOp.andi x v reducesTo_S33x192_S_d0_1 h_S_) main_v6 main_c_1
  let main_v8 : IVec S_ 1 := andi main_v3 main_v7
  let main_v9 : FVec F S8x192 .f32 := Host.absf main_arg6
  let main_cst_2 : FVec F S_ .f32 := constant S_ .f32 0x7F800000#32
  let main_v10 : FVec F S8x192 .f32 := broadcastInDim S8x192 ![] bcast_S_S8x192 main_cst_2
  let main_v11 : IVec S8x192 1 := cmpf .olt main_v9 main_v10
  let main_c_3 : IVec S_ 1 := constantI S_ 1 1#1
  let main_v12 : IVec S_ 1 := (fun x v => Host.reduce IntOp.andi x v reducesTo_S8x192_S_d0_1 h_S_) main_v11 main_c_3
  let main_v13 : IVec S_ 1 := andi main_v8 main_v12
  let main_v14 : FVec F S1x192 .f32 := Host.absf main_arg7
  let main_cst_4 : FVec F S_ .f32 := constant S_ .f32 0x7F800000#32
  let main_v15 : FVec F S1x192 .f32 := broadcastInDim S1x192 ![] bcast_S_S1x192 main_cst_4
  let main_v16 : IVec S1x192 1 := cmpf .olt main_v14 main_v15
  fn_part1 (F := F) main_arg8 main_arg9 main_arg10 main_arg11 main_arg12 main_v13 main_v16
-- ==== Kernel.lean ====
abbrev S4x2048 : Shape := ⟨2, ![4, 2048]⟩
abbrev S4 : Shape := ⟨1, ![4]⟩
abbrev S8x192 : Shape := ⟨2, ![8, 192]⟩
abbrev S33x192 : Shape := ⟨2, ![33, 192]⟩
abbrev S1x192 : Shape := ⟨2, ![1, 192]⟩
abbrev S192 : Shape := ⟨1, ![192]⟩
abbrev S768x768 : Shape := ⟨2, ![768, 768]⟩
abbrev S768 : Shape := ⟨1, ![768]⟩
abbrev S4x2048x768 : Shape := ⟨3, ![4, 2048, 768]⟩
abbrev S1x512x768 : Shape := ⟨3, ![1, 512, 768]⟩
abbrev S64x768 : Shape := ⟨2, ![64, 768]⟩
abbrev S192x768 : Shape := ⟨2, ![192, 768]⟩
abbrev S8x768 : Shape := ⟨2, ![8, 768]⟩
abbrev S33x768 : Shape := ⟨2, ![33, 768]⟩
abbrev S1x768 : Shape := ⟨2, ![1, 768]⟩
abbrev S7x768 : Shape := ⟨2, ![7, 768]⟩
abbrev S4x1 : Shape := ⟨2, ![4, 1]⟩
abbrev S4x2047 : Shape := ⟨2, ![4, 2047]⟩
abbrev S4x2 : Shape := ⟨2, ![4, 2]⟩
abbrev S4x2046 : Shape := ⟨2, ![4, 2046]⟩
abbrev S4x4 : Shape := ⟨2, ![4, 4]⟩
abbrev S4x2044 : Shape := ⟨2, ![4, 2044]⟩
abbrev S4x8 : Shape := ⟨2, ![4, 8]⟩
abbrev S4x2040 : Shape := ⟨2, ![4, 2040]⟩
abbrev S4x16 : Shape := ⟨2, ![4, 16]⟩
abbrev S4x2032 : Shape := ⟨2, ![4, 2032]⟩
abbrev S4x32 : Shape := ⟨2, ![4, 32]⟩
abbrev S4x2016 : Shape := ⟨2, ![4, 2016]⟩
abbrev S4x64 : Shape := ⟨2, ![4, 64]⟩
abbrev S4x1984 : Shape := ⟨2, ![4, 1984]⟩
abbrev S4x128 : Shape := ⟨2, ![4, 128]⟩
abbrev S4x1920 : Shape := ⟨2, ![4, 1920]⟩
abbrev S4x256 : Shape := ⟨2, ![4, 256]⟩
abbrev S4x1792 : Shape := ⟨2, ![4, 1792]⟩
abbrev S4x512 : Shape := ⟨2, ![4, 512]⟩
abbrev S4x1536 : Shape := ⟨2, ![4, 1536]⟩
abbrev S4x1024 : Shape := ⟨2, ![4, 1024]⟩
abbrev S1x512 : Shape := ⟨2, ![1, 512]⟩
abbrev S1 : Shape := ⟨1, ![1]⟩
abbrev S8x512 : Shape := ⟨2, ![8, 512]⟩
abbrev S40x512 : Shape := ⟨2, ![40, 512]⟩
abbrev S7x512 : Shape := ⟨2, ![7, 512]⟩
abbrev S64x512 : Shape := ⟨2, ![64, 512]⟩
abbrev S512x768 : Shape := ⟨2, ![512, 768]⟩
abbrev S768x1 : Shape := ⟨2, ![768, 1]⟩
abbrev S512x1 : Shape := ⟨2, ![512, 1]⟩

abbrev nBuf : Space → Nat
  | .hbm => 14
  | .vmem => 12
  | .smem => 1
  | _ => 0

abbrev bufTy : (tb : Table) → Fin (tcTables nBuf tb) → BufTy
  | .hbm, ⟨0, _⟩ => ⟨S4x2048, .i32⟩
  | .hbm, ⟨1, _⟩ => ⟨S4x2048, .i32⟩
  | .hbm, ⟨2, _⟩ => ⟨S4, .i32⟩
  | .hbm, ⟨3, _⟩ => ⟨S4x2048, .i1⟩
  | .hbm, ⟨4, _⟩ => ⟨S8x192, .f32⟩
  | .hbm, ⟨5, _⟩ => ⟨S33x192, .f32⟩
  | .hbm, ⟨6, _⟩ => ⟨S8x192, .f32⟩
  | .hbm, ⟨7, _⟩ => ⟨S1x192, .f32⟩
  | .hbm, ⟨8, _⟩ => ⟨S192, .f32⟩
  | .hbm, ⟨9, _⟩ => ⟨S768x768, .f32⟩
  | .hbm, ⟨10, _⟩ => ⟨S768, .f32⟩
  | .hbm, ⟨11, _⟩ => ⟨S768, .f32⟩
  | .hbm, ⟨12, _⟩ => ⟨S768, .f32⟩
  | .hbm, ⟨13, _⟩ => ⟨S4x2048x768, .f32⟩
  | .local _ .vmem, ⟨0, _⟩ => ⟨S4x2048, .i32⟩
  | .local _ .vmem, ⟨1, _⟩ => ⟨S8x192, .f32⟩
  | .local _ .vmem, ⟨2, _⟩ => ⟨S33x192, .f32⟩
  | .local _ .vmem, ⟨3, _⟩ => ⟨S8x192, .f32⟩
  | .local _ .vmem, ⟨4, _⟩ => ⟨S1x192, .f32⟩
  | .local _ .vmem, ⟨5, _⟩ => ⟨S768x768, .f32⟩
  | .local _ .vmem, ⟨6, _⟩ => ⟨S1x512x768, .f32⟩
  | .local _ .vmem, ⟨7, _⟩ => ⟨S1x512x768, .f32⟩
  | .local _ .vmem, ⟨8, _⟩ => ⟨S64x768, .f32⟩
  | .local _ .vmem, ⟨9, _⟩ => ⟨S4x2048, .i32⟩
  | .local _ .vmem, ⟨10, _⟩ => ⟨S4x2048, .i32⟩
  | .local _ .vmem, ⟨11, _⟩ => ⟨S4x2048, .i32⟩
  | .local _ .smem, ⟨0, _⟩ => ⟨S4, .i32⟩
  | _, _ => ⟨S4x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg7_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8

abbrev nD : Nat := 1
abbrev τ : Topo := Topo.v7x

variable {F : FTy → Type} [FloatOps F]

abbrev grid0 : Pipeline.Grid := ⟨2, ![4, 4], ![false, false]⟩

def k0_off1 (i : grid0.Coords) : Fin 2 → Nat :=
  let arg0 : BitVec 32 := BitVec.ofNat 32 (i 0).val
  let v6 : Index := Scalar.indexCast arg0
  let arg1 : BitVec 32 := BitVec.ofNat 32 (i 1).val
  let c512_i32 : BitVec 32 := 512#32
  let v5 : BitVec 32 := Scalar.muli arg1 c512_i32
  let v7 : Index := Scalar.indexCast v5
  ![v6.toNat, v7.toNat]
def k0_off2 (i : grid0.Coords) : Fin 1 → Nat :=
  let arg0 : BitVec 32 := BitVec.ofNat 32 (i 0).val
  let v15 : Index := Scalar.indexCast arg0
  ![v15.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S4x2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S4 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S33x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S768x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "inv_d" => some ((768⁻¹ : ℝ) : EReal)
  | "rsqrt2" => some (((Real.sqrt 2)⁻¹ : ℝ) : EReal)
  | _ => none
-- ==== ReferenceIdeal.lean ====
abbrev S4x2048 : Shape := ⟨2, ![4, 2048]⟩
abbrev S4 : Shape := ⟨1, ![4]⟩
abbrev S8x192 : Shape := ⟨2, ![8, 192]⟩
abbrev S33x192 : Shape := ⟨2, ![33, 192]⟩
abbrev S1x192 : Shape := ⟨2, ![1, 192]⟩
abbrev S192 : Shape := ⟨1, ![192]⟩
abbrev S768x768 : Shape := ⟨2, ![768, 768]⟩
abbrev S768 : Shape := ⟨1, ![768]⟩
abbrev S_ : Shape := ⟨0, ![]⟩
abbrev S4x2048x1 : Shape := ⟨3, ![4, 2048, 1]⟩
abbrev S4x2048x192 : Shape := ⟨3, ![4, 2048, 192]⟩
abbrev S2048 : Shape := ⟨1, ![2048]⟩
abbrev S1x2048 : Shape := ⟨2, ![1, 2048]⟩
abbrev S1x2048x1 : Shape := ⟨3, ![1, 2048, 1]⟩
abbrev S4x1x2048 : Shape := ⟨3, ![4, 1, 2048]⟩
abbrev S4x2048x2048 : Shape := ⟨3, ![4, 2048, 2048]⟩
abbrev S4x2048x1x1 : Shape := ⟨4, ![4, 2048, 1, 1]⟩
abbrev S4x1 : Shape := ⟨2, ![4, 1]⟩
abbrev S1x1x192 : Shape := ⟨3, ![1, 1, 192]⟩
abbrev S4x2048x768 : Shape := ⟨3, ![4, 2048, 768]⟩
abbrev S1x1x768 : Shape := ⟨3, ![1, 1, 768]⟩

abbrev nBuf : Space → Nat
  | .hbm => 221
  | .vmem => 0
  | .smem => 0
  | _ => 0

abbrev hbmTy0_0 (i : Nat) : BufTy := match i % 128 with
  | 0 => ⟨S4x2048, .i32⟩
  | 1 => ⟨S4x2048, .i32⟩
  | 2 => ⟨S4, .i32⟩
  | 3 => ⟨S4x2048, .i1⟩
  | 4 => ⟨S8x192, .f32⟩
  | 5 => ⟨S33x192, .f32⟩
  | 6 => ⟨S8x192, .f32⟩
  | 7 => ⟨S1x192, .f32⟩
  | 8 => ⟨S192, .f32⟩
  | 9 => ⟨S768x768, .f32⟩
  | 10 => ⟨S768, .f32⟩
  | 11 => ⟨S768, .f32⟩
  | 12 => ⟨S768, .f32⟩
  | 13 => ⟨S_, .i32⟩
  | 14 => ⟨S4x2048, .i32⟩
  | 15 => ⟨S4x2048, .i1⟩
  | 16 => ⟨S4x2048, .i32⟩
  | 17 => ⟨S_, .i32⟩
  | 18 => ⟨S_, .i32⟩
  | 19 => ⟨S4x2048, .i32⟩
  | 20 => ⟨S_, .i32⟩
  | 21 => ⟨S_, .i32⟩
  | 22 => ⟨S_, .i32⟩
  | 23 => ⟨S4x2048, .i32⟩
  | 24 => ⟨S4x2048, .i32⟩
  | 25 => ⟨S_, .i32⟩
  | 26 => ⟨S4x2048, .i32⟩
  | 27 => ⟨S4x2048, .i32⟩
  | 28 => ⟨S_, .i32⟩
  | 29 => ⟨S4x2048, .i32⟩
  | 30 => ⟨S4x2048, .i1⟩
  | 31 => ⟨S_, .i32⟩
  | 32 => ⟨S4x2048, .i32⟩
  | 33 => ⟨S4x2048, .i32⟩
  | 34 => ⟨S4x2048, .i32⟩
  | 35 => ⟨S4x2048x1, .i32⟩
  | 36 => ⟨S4x2048x192, .f32⟩
  | 37 => ⟨S_, .i32⟩
  | 38 => ⟨S4x2048, .i32⟩
  | 39 => ⟨S4x2048, .i1⟩
  | 40 => ⟨S4x2048, .f32⟩
  | 41 => ⟨S_, .i32⟩
  | 42 => ⟨S4x2048, .i32⟩
  | 43 => ⟨S4x2048, .i1⟩
  | 44 => ⟨S4x2048, .f32⟩
  | 45 => ⟨S4x2048, .f32⟩
  | 46 => ⟨S_, .f32⟩
  | 47 => ⟨S_, .f32⟩
  | 48 => ⟨S_, .f32⟩
  | 49 => ⟨S4x2048, .f32⟩
  | 50 => ⟨S4x2048, .f32⟩
  | 51 => ⟨S_, .f32⟩
  | 52 => ⟨S4x2048, .f32⟩
  | 53 => ⟨S4x2048, .f32⟩
  | 54 => ⟨S2048, .f32⟩
  | 55 => ⟨S1x2048, .f32⟩
  | 56 => ⟨S4x2048, .f32⟩
  | 57 => ⟨S4x2048, .f32⟩
  | 58 => ⟨S_, .f32⟩
  | 59 => ⟨S4x2048, .f32⟩
  | 60 => ⟨S4x2048, .f32⟩
  | 61 => ⟨S_, .f32⟩
  | 62 => ⟨S4x2048, .f32⟩
  | 63 => ⟨S4x2048, .f32⟩
  | 64 => ⟨S4x2048, .f32⟩
  | 65 => ⟨S1x2048x1, .f32⟩
  | 66 => ⟨S4x1x2048, .f32⟩
  | 67 => ⟨S4x2048x2048, .f32⟩
  | 68 => ⟨S4x2048x2048, .f32⟩
  | 69 => ⟨S4x2048x2048, .f32⟩
  | 70 => ⟨S4x2048x2048, .f32⟩
  | 71 => ⟨S4x1x2048, .f32⟩
  | 72 => ⟨S_, .f32⟩
  | 73 => ⟨S4x1x2048, .f32⟩
  | 74 => ⟨S4x1x2048, .i1⟩
  | 75 => ⟨S_, .f32⟩
  | 76 => ⟨S_, .f32⟩
  | 77 => ⟨S4x2048x2048, .i1⟩
  | 78 => ⟨S4x2048x2048, .f32⟩
  | 79 => ⟨S4x2048x2048, .f32⟩
  | 80 => ⟨S_, .f32⟩
  | 81 => ⟨S4x2048, .f32⟩
  | 82 => ⟨S4x2048x1, .f32⟩
  | 83 => ⟨S4x2048x2048, .f32⟩
  | 84 => ⟨S4x2048x2048, .i1⟩
  | 85 => ⟨S2048, .i32⟩
  | 86 => ⟨S_, .i32⟩
  | 87 => ⟨S_, .i32⟩
  | 88 => ⟨S4x2048x2048, .i32⟩
  | 89 => ⟨S4x2048x2048, .i32⟩
  | 90 => ⟨S4x2048x2048, .i32⟩
  | 91 => ⟨S_, .i32⟩
  | 92 => ⟨S4x2048, .i32⟩
  | 93 => ⟨S4x2048x1, .i32⟩
  | 94 => ⟨S_, .i32⟩
  | 95 => ⟨S4x2048x1, .i32⟩
  | 96 => ⟨S4x2048x1, .i1⟩
  | 97 => ⟨S_, .i32⟩
  | 98 => ⟨S4x2048x1, .i32⟩
  | 99 => ⟨S4x2048x1, .i32⟩
  | 100 => ⟨S4x2048x1, .i32⟩
  | 101 => ⟨S4x2048x1x1, .i32⟩
  | 102 => ⟨S4x2048x1, .f32⟩
  | 103 => ⟨S4x2048, .f32⟩
  | 104 => ⟨S_, .f32⟩
  | 105 => ⟨S4, .f32⟩
  | 106 => ⟨S_, .f32⟩
  | 107 => ⟨S4, .f32⟩
  | 108 => ⟨S4, .i1⟩
  | 109 => ⟨S4x1, .i1⟩
  | 110 => ⟨S_, .f32⟩
  | 111 => ⟨S_, .f32⟩
  | 112 => ⟨S4x2048, .i1⟩
  | 113 => ⟨S4x2048, .f32⟩
  | 114 => ⟨S4x2048, .f32⟩
  | 115 => ⟨S_, .f32⟩
  | 116 => ⟨S_, .f32⟩
  | 117 => ⟨S_, .f32⟩
  | 118 => ⟨S4x2048, .f32⟩
  | 119 => ⟨S4x2048, .f32⟩
  | 120 => ⟨S_, .f32⟩
  | 121 => ⟨S4x2048, .f32⟩
  | 122 => ⟨S4x2048, .f32⟩
  | 123 => ⟨S4x2048, .i32⟩
  | 124 => ⟨S_, .i32⟩
  | 125 => ⟨S4x2048, .i32⟩
  | 126 => ⟨S4x2048, .i32⟩
  | 127 => ⟨S_, .i32⟩
  | _ => ⟨S4x2048, .i32⟩

abbrev hbmTy0_1 (i : Nat) : BufTy := match i % 128 with
  | 0 => ⟨S4x2048, .i32⟩
  | 1 => ⟨S4x2048, .i1⟩
  | 2 => ⟨S_, .i32⟩
  | 3 => ⟨S4x2048, .i32⟩
  | 4 => ⟨S4x2048, .i32⟩
  | 5 => ⟨S4x2048, .i32⟩
  | 6 => ⟨S4x2048x1, .i32⟩
  | 7 => ⟨S4x2048x192, .f32⟩
  | 8 => ⟨S_, .i32⟩
  | 9 => ⟨S4x2048, .i32⟩
  | 10 => ⟨S4x2048, .i1⟩
  | 11 => ⟨S4x2048, .i32⟩
  | 12 => ⟨S_, .i32⟩
  | 13 => ⟨S_, .i32⟩
  | 14 => ⟨S4x2048, .i32⟩
  | 15 => ⟨S_, .i32⟩
  | 16 => ⟨S_, .i32⟩
  | 17 => ⟨S_, .i32⟩
  | 18 => ⟨S4x2048, .i32⟩
  | 19 => ⟨S4x2048, .i32⟩
  | 20 => ⟨S_, .i32⟩
  | 21 => ⟨S4x2048, .i32⟩
  | 22 => ⟨S4x2048, .i32⟩
  | 23 => ⟨S_, .i32⟩
  | 24 => ⟨S4x2048, .i32⟩
  | 25 => ⟨S4x2048, .i1⟩
  | 26 => ⟨S_, .i32⟩
  | 27 => ⟨S4x2048, .i32⟩
  | 28 => ⟨S4x2048, .i32⟩
  | 29 => ⟨S4x2048, .i32⟩
  | 30 => ⟨S4x2048x1, .i32⟩
  | 31 => ⟨S4x2048x192, .f32⟩
  | 32 => ⟨S1x2048, .f32⟩
  | 33 => ⟨S4, .f32⟩
  | 34 => ⟨S_, .f32⟩
  | 35 => ⟨S_, .f32⟩
  | 36 => ⟨S4, .f32⟩
  | 37 => ⟨S4, .f32⟩
  | 38 => ⟨S4x1, .f32⟩
  | 39 => ⟨S4x2048, .f32⟩
  | 40 => ⟨S4x2048, .f32⟩
  | 41 => ⟨S4x2048, .f32⟩
  | 42 => ⟨S4x2048x1, .f32⟩
  | 43 => ⟨S4x2048x192, .f32⟩
  | 44 => ⟨S1x1x192, .f32⟩
  | 45 => ⟨S4x2048x192, .f32⟩
  | 46 => ⟨S4x2048x192, .f32⟩
  | 47 => ⟨S4x2048x768, .f32⟩
  | 48 => ⟨S4x2048x768, .f32⟩
  | 49 => ⟨S1x1x768, .f32⟩
  | 50 => ⟨S4x2048x768, .f32⟩
  | 51 => ⟨S4x2048x768, .f32⟩
  | 52 => ⟨S_, .f32⟩
  | 53 => ⟨S4x2048x768, .f32⟩
  | 54 => ⟨S4x2048x768, .f32⟩
  | 55 => ⟨S_, .f32⟩
  | 56 => ⟨S_, .f32⟩
  | 57 => ⟨S4x2048x768, .f32⟩
  | 58 => ⟨S4x2048x768, .f32⟩
  | 59 => ⟨S4x2048x768, .f32⟩
  | 60 => ⟨S_, .f32⟩
  | 61 => ⟨S4x2048x768, .f32⟩
  | 62 => ⟨S4x2048x768, .f32⟩
  | 63 => ⟨S4x2048x768, .f32⟩
  | 64 => ⟨S_, .f32⟩
  | 65 => ⟨S4x2048, .f32⟩
  | 66 => ⟨S4x2048x1, .f32⟩
  | 67 => ⟨S_, .f32⟩
  | 68 => ⟨S4x2048x1, .f32⟩
  | 69 => ⟨S4x2048x1, .f32⟩
  | 70 => ⟨S4x2048x768, .f32⟩
  | 71 => ⟨S4x2048x768, .f32⟩
  | 72 => ⟨S4x2048x768, .f32⟩
  | 73 => ⟨S_, .f32⟩
  | 74 => ⟨S4x2048, .f32⟩
  | 75 => ⟨S4x2048x1, .f32⟩
  | 76 => ⟨S_, .f32⟩
  | 77 => ⟨S4x2048x1, .f32⟩
  | 78 => ⟨S4x2048x1, .f32⟩
  | 79 => ⟨S4x2048x768, .f32⟩
  | 80 => ⟨S4x2048x768, .f32⟩
  | 81 => ⟨S_, .f32⟩
  | 82 => ⟨S4x2048x1, .f32⟩
  | 83 => ⟨S4x2048x1, .f32⟩
  | 84 => ⟨S4x2048x1, .f32⟩
  | 85 => ⟨S4x2048x768, .f32⟩
  | 86 => ⟨S4x2048x768, .f32⟩
  | 87 => ⟨S1x1x768, .f32⟩
  | 88 => ⟨S4x2048x768, .f32⟩
  | 89 => ⟨S4x2048x768, .f32⟩
  | 90 => ⟨S1x1x768, .f32⟩
  | 91 => ⟨S4x2048x768, .f32⟩
  | 92 => ⟨S4x2048x768, .f32⟩
  | _ => ⟨S4x2048, .i32⟩

abbrev hbmTy (i : Nat) : BufTy := match i / 128 with
  | 0 => hbmTy0_0 i
  | 1 => hbmTy0_1 i
  | _ => ⟨S4x2048, .i32⟩

abbrev bufTy : (tb : Table) → Fin (tcTables nBuf tb) → BufTy
  | .hbm, ⟨i, _⟩ => hbmTy i
  | _, _ => ⟨S4x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_call0_call0_c : Ref sig .tc := ⟨.hbm, 17, rfl⟩
abbrev main_call0_call0_v0 : Ref sig .tc := ⟨.hbm, 18, rfl⟩
abbrev main_v3 : Ref sig .tc := ⟨.hbm, 19, rfl⟩
abbrev main_c_0 : Ref sig .tc := ⟨.hbm, 20, rfl⟩
abbrev main_c_1 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v4 : Ref sig .tc := ⟨.hbm, 27, rfl⟩
abbrev main_c_2 : Ref sig .tc := ⟨.hbm, 28, rfl⟩
abbrev main_v5 : Ref sig .tc := ⟨.hbm, 29, rfl⟩
abbrev main_v6 : Ref sig .tc := ⟨.hbm, 30, rfl⟩
abbrev main_c_3 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_c_4 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_c_5 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst : Ref sig .tc := ⟨.hbm, 46, rfl⟩
abbrev main_cst_6 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_cst_7 : Ref sig .tc := ⟨.hbm, 58, rfl⟩
abbrev main_v24 : Ref sig .tc := ⟨.hbm, 59, rfl⟩
abbrev main_v25 : Ref sig .tc := ⟨.hbm, 60, rfl⟩
abbrev main_cst_8 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_9 : Ref sig .tc := ⟨.hbm, 72, rfl⟩
abbrev main_v36 : Ref sig .tc := ⟨.hbm, 73, rfl⟩
abbrev main_v37 : Ref sig .tc := ⟨.hbm, 74, rfl⟩
abbrev main_cst_10 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v38 : Ref sig .tc := ⟨.hbm, 79, rfl⟩
abbrev main_cst_11 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_c_12 : Ref sig .tc := ⟨.hbm, 86, rfl⟩
abbrev main_call4_v0 : Ref sig .tc := ⟨.hbm, 87, rfl⟩
abbrev main_call4_v1 : Ref sig .tc := ⟨.hbm, 88, rfl⟩
abbrev main_call4_v2 : Ref sig .tc := ⟨.hbm, 89, rfl⟩
abbrev main_v44 : Ref sig .tc := ⟨.hbm, 90, rfl⟩
abbrev main_c_13 : Ref sig .tc := ⟨.hbm, 91, rfl⟩
abbrev main_v45 : Ref sig .tc := ⟨.hbm, 92, rfl⟩
abbrev main_v46 : Ref sig .tc := ⟨.hbm, 93, rfl⟩
abbrev main_call5_c : Ref sig .tc := ⟨.hbm, 94, rfl⟩
abbrev main_call5_v0 : Ref sig .tc := ⟨.hbm, 95, rfl⟩
abbrev main_call5_v1 : Ref sig .tc := ⟨.hbm, 96, rfl⟩
abbrev main_call5_c_0 : Ref sig .tc := ⟨.hbm, 97, rfl⟩
abbrev main_call5_v2 : Ref sig .tc := ⟨.hbm, 98, rfl⟩
abbrev main_call5_v3 : Ref sig .tc := ⟨.hbm, 99, rfl⟩
abbrev main_call5_v4 : Ref sig .tc := ⟨.hbm, 100, rfl⟩
abbrev main_call5_v5 : Ref sig .tc := ⟨.hbm, 101, rfl⟩
abbrev main_v47 : Ref sig .tc := ⟨.hbm, 102, rfl⟩
abbrev main_v48 : Ref sig .tc := ⟨.hbm, 103, rfl⟩
abbrev main_cst_14 : Ref sig .tc := ⟨.hbm, 104, rfl⟩
abbrev main_v49 : Ref sig .tc := ⟨.hbm, 105, rfl⟩
abbrev main_cst_15 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_cst_16 : Ref sig .tc := ⟨.hbm, 110, rfl⟩
abbrev main_call6_v0 : Ref sig .tc := ⟨.hbm, 111, rfl⟩
abbrev main_call6_v1 : Ref sig .tc := ⟨.hbm, 112, rfl⟩
abbrev main_call6_v2 : Ref sig .tc := ⟨.hbm, 113, rfl⟩
abbrev main_v53 : Ref sig .tc := ⟨.hbm, 114, rfl⟩
abbrev main_cst_17 : Ref sig .tc := ⟨.hbm, 115, rfl⟩
abbrev main_cst_18 : Ref sig .tc := ⟨.hbm, 116, rfl⟩
abbrev main_call7_v0 : Ref sig .tc := ⟨.hbm, 117, rfl⟩
abbrev main_call7_v1 : Ref sig .tc := ⟨.hbm, 118, rfl⟩
abbrev main_call7_v2 : Ref sig .tc := ⟨.hbm, 119, rfl⟩
abbrev main_call7_v3 : Ref sig .tc := ⟨.hbm, 120, rfl⟩
abbrev main_call7_v4 : Ref sig .tc := ⟨.hbm, 121, rfl⟩
abbrev main_v54 : Ref sig .tc := ⟨.hbm, 122, rfl⟩
abbrev main_v55 : Ref sig .tc := ⟨.hbm, 123, rfl⟩
abbrev main_c_19 : Ref sig .tc := ⟨.hbm, 124, rfl⟩
abbrev main_v56 : Ref sig .tc := ⟨.hbm, 125, rfl⟩
abbrev main_v57 : Ref sig .tc := ⟨.hbm, 126, rfl⟩
abbrev main_c_20 : Ref sig .tc := ⟨.hbm, 127, rfl⟩
abbrev main_v58 : Ref sig .tc := ⟨.hbm, 128, rfl⟩
abbrev main_v59 : Ref sig .tc := ⟨.hbm, 129, rfl⟩
abbrev main_c_21 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_c_22 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_call8_call0_c : Ref sig .tc := ⟨.hbm, 140, rfl⟩
abbrev main_call8_call0_v0 : Ref sig .tc := ⟨.hbm, 141, rfl⟩
abbrev main_v68 : Ref sig .tc := ⟨.hbm, 142, rfl⟩
abbrev main_c_23 : Ref sig .tc := ⟨.hbm, 143, rfl⟩
abbrev main_c_24 : Ref sig .tc := ⟨.hbm, 144, rfl⟩
abbrev main_call9_v0 : Ref sig .tc := ⟨.hbm, 145, rfl⟩
abbrev main_call9_v1 : Ref sig .tc := ⟨.hbm, 146, rfl⟩
abbrev main_call9_v2 : Ref sig .tc := ⟨.hbm, 147, rfl⟩
abbrev main_call9_v3 : Ref sig .tc := ⟨.hbm, 148, rfl⟩
abbrev main_call9_v4 : Ref sig .tc := ⟨.hbm, 149, rfl⟩
abbrev main_v69 : Ref sig .tc := ⟨.hbm, 150, rfl⟩
abbrev main_c_25 : Ref sig .tc := ⟨.hbm, 151, rfl⟩
abbrev main_v70 : Ref sig .tc := ⟨.hbm, 152, rfl⟩
abbrev main_v71 : Ref sig .tc := ⟨.hbm, 153, rfl⟩
abbrev main_c_26 : Ref sig .tc := ⟨.hbm, 154, rfl⟩
abbrev main_v72 : Ref sig .tc := ⟨.hbm, 155, rfl⟩
abbrev main_v73 : Ref sig .tc := ⟨.hbm, 156, rfl⟩
abbrev main_v74 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_cst_27 : Ref sig .tc := ⟨.hbm, 162, rfl⟩
abbrev main_call10_v0 : Ref sig .tc := ⟨.hbm, 163, rfl⟩
abbrev main_call10_v1 : Ref sig .tc := ⟨.hbm, 164, rfl⟩
abbrev main_v79 : Ref sig .tc := ⟨.hbm, 165, rfl⟩
abbrev main_v80 : Ref sig .tc := ⟨.hbm, 166, rfl⟩
abbrev main_v81 : Ref sig .tc := ⟨.hbm, 167, rfl⟩
abbrev main_v82 : Ref sig .tc := ⟨.hbm, 168, rfl⟩
abbrev main_v83 : Ref sig .tc := ⟨.hbm, 169, rfl⟩
abbrev main_v84 : Ref sig .tc := ⟨.hbm, 170, rfl⟩
abbrev main_v85 : Ref sig .tc := ⟨.hbm, 171, rfl⟩
abbrev main_v86 : Ref sig .tc := ⟨.hbm, 172, rfl⟩
abbrev main_v87 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩
abbrev main_v92 : Ref sig .tc := ⟨.hbm, 178, rfl⟩
abbrev main_v93 : Ref sig .tc := ⟨.hbm, 179, rfl⟩
abbrev main_cst_28 : Ref sig .tc := ⟨.hbm, 180, rfl⟩
abbrev main_v94 : Ref sig .tc := ⟨.hbm, 181, rfl⟩
abbrev main_v95 : Ref sig .tc := ⟨.hbm, 182, rfl⟩
abbrev main_cst_29 : Ref sig .tc := ⟨.hbm, 183, rfl⟩
abbrev main_v96 : Ref sig .tc := ⟨.hbm, 184, rfl⟩
abbrev main_v97 : Ref sig .tc := ⟨.hbm, 185, rfl⟩
abbrev main_v98 : Ref sig .tc := ⟨.hbm, 186, rfl⟩
abbrev main_v99 : Ref sig .tc := ⟨.hbm, 187, rfl⟩
abbrev main_cst_30 : Ref sig .tc := ⟨.hbm, 188, rfl⟩
abbrev main_v100 : Ref sig .tc := ⟨.hbm, 189, rfl⟩
abbrev main_v101 : Ref sig .tc := ⟨.hbm, 190, rfl⟩
abbrev main_v102 : Ref sig .tc := ⟨.hbm, 191, rfl⟩
abbrev main_cst_31 : Ref sig .tc := ⟨.hbm, 192, rfl⟩
abbrev main_v103 : Ref sig .tc := ⟨.hbm, 193, rfl⟩
abbrev main_v104 : Ref sig .tc := ⟨.hbm, 194, rfl⟩
abbrev main_cst_32 : Ref sig .tc := ⟨.hbm, 195, rfl⟩
abbrev main_v105 : Ref sig .tc := ⟨.hbm, 196, rfl⟩
abbrev main_v106 : Ref sig .tc := ⟨.hbm, 197, rfl⟩
abbrev main_v107 : Ref sig .tc := ⟨.hbm, 198, rfl⟩
abbrev main_v108 : Ref sig .tc := ⟨.hbm, 199, rfl⟩
abbrev main_v109 : Ref sig .tc := ⟨.hbm, 200, rfl⟩
abbrev main_cst_33 : Ref sig .tc := ⟨.hbm, 201, rfl⟩
abbrev main_v110 : Ref sig .tc := ⟨.hbm, 202, rfl⟩
abbrev main_v111 : Ref sig .tc := ⟨.hbm, 203, rfl⟩
abbrev main_cst_34 : Ref sig .tc := ⟨.hbm, 204, rfl⟩
abbrev main_v112 : Ref sig .tc := ⟨.hbm, 205, rfl⟩
abbrev main_v113 : Ref sig .tc := ⟨.hbm, 206, rfl⟩
abbrev main_v114 : Ref sig .tc := ⟨.hbm, 207, rfl⟩
abbrev main_v115 : Ref sig .tc := ⟨.hbm, 208, rfl⟩
abbrev main_cst_35 : Ref sig .tc := ⟨.hbm, 209, rfl⟩
abbrev main_v116 : Ref sig .tc := ⟨.hbm, 210, rfl⟩
abbrev main_v117 : Ref sig .tc := ⟨.hbm, 211, rfl⟩
abbrev main_v118 : Ref sig .tc := ⟨.hbm, 212, rfl⟩
abbrev main_v119 : Ref sig .tc := ⟨.hbm, 213, rfl⟩
abbrev main_v120 : Ref sig .tc := ⟨.hbm, 214, rfl⟩
abbrev main_v121 : Ref sig .tc := ⟨.hbm, 215, rfl⟩
abbrev main_v122 : Ref sig .tc := ⟨.hbm, 216, rfl⟩
abbrev main_v123 : Ref sig .tc := ⟨.hbm, 217, rfl⟩
abbrev main_v124 : Ref sig .tc := ⟨.hbm, 218, rfl⟩
abbrev main_v125 : Ref sig .tc := ⟨.hbm, 219, rfl⟩
abbrev main_v126 : Ref sig .tc := ⟨.hbm, 220, rfl⟩

abbrev nD : Nat := 1
abbrev τ : Topo := Topo.v7x

variable {F : FTy → Type} [FloatOps F]
-- ==== Proof.Frames.lean ====
/- What the three programs leave behind: every execution of the kernel, of the kernel over the extended reals and of the
   reference over the extended reals ends, leaves the arguments as they were and every semaphore at zero; and the two named
   constants hold the numbers that their names stand for. -/
module

public import proofs.«01_k».proof.Defs
public import proofs.«01_k».proof.Proof.Gen.Kernel.Frame
public import proofs.«01_k».proof.Proof.Gen.KernelIdeal.Frame
public import proofs.«01_k».proof.Proof.Gen.ReferenceIdeal.Run

@[expose] public section

noncomputable section

namespace Cert.Proof

open Idealize.ShloMosaic Idealize.SL.Sem

/-- The kernel as it is run. -/
theorem frame_kernel : Cert.quiescent_Kernel := fun m ρ _ => Cert.Kernel.Gen.frame m ρ

/-- The kernel over the extended reals. -/
theorem frame_ideal : Cert.quiescent_KernelIdeal := fun m ρ _ => Cert.KernelIdeal.Gen.frame m ρ

/-- The reference over the extended reals. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The name `rsqrt2` holds the inverse of the square root of two, the name `inv_d` the inverse of 768. -/
theorem preserves : Cert.preserves_Kernel_KernelIdeal :=
  ⟨IdealRules.named_const.statement Cert.KernelIdeal.κ "rsqrt2" .f32 0x3F3504F3#32 (((Real.sqrt 2)⁻¹ : ℝ) : EReal) rfl,
    IdealRules.named_const.statement Cert.KernelIdeal.κ "inv_d" .f32 0x3AAAAAAB#32 ((768⁻¹ : ℝ) : EReal) rfl⟩

end Cert.Proof

end
-- ==== Proof.Scan.lean ====
/- Running folds by doubling. A row is folded with itself moved by 1, 2, 4, … 1024 places: after all eleven steps each place
   holds the fold of everything up to it (or, moved the other way, of everything from it on). -/
module

public import proofs.«01_k».proof.KernelIdeal
public import proofs.«01_k».proof.Proof.Gen.KernelIdeal
public import Idealize.ShloMosaic.Lib.Pointwise
public import Idealize.ShloMosaic.Lib.Pointwise.IndexVar
public import Idealize.ShloMosaic.PureOps.Reduce

@[expose] public section

set_option maxRecDepth 16384

noncomputable section

namespace Cert.Proof

open Idealize.ShloMosaic Cert.KernelIdeal

section Fold
variable {α : Type} (op : α → α → α) [Std.Commutative op] [Std.Associative op] (e : α)

/-- Folding one more starting value into a fold changes nothing, when the starting value folded with itself is itself. -/
theorem fold_init {ι : Type} [DecidableEq ι] (he : op e e = e) (x : ι → α) (s : Finset ι) :
    op (s.fold op e x) e = s.fold op e x := by
  have h := Finset.fold_disjUnion (op := op) (f := x) (b₁ := e) (b₂ := e) (Finset.disjoint_empty_right s)
  rw [he, Finset.fold_empty] at h
  rw [← h]
  congr 1
  ext j
  simp

variable {n : ℕ}

/-- The places up to `i`, fewer than `k` back. -/
def back (k : ℕ) (i : Fin n) : Finset (Fin n) := Finset.univ.filter fun j => j ≤ i ∧ i.val < j.val + k

/-- The places from `i` on, fewer than `k` ahead. -/
def ahead (k : ℕ) (i : Fin n) : Finset (Fin n) := Finset.univ.filter fun j => i ≤ j ∧ j.val < i.val + k

/-- One doubling step to the right: windows of `k` places become windows of `2 k`. -/
theorem fold_back (he : op e e = e) (x c : Fin n → α) (k : ℕ) (hc : ∀ i, c i = (back k i).fold op e x) (i : Fin n) :
    op (c i) (if k ≤ i.val then c ⟨i.val - k, by omega⟩ else e) = (back (2 * k) i).fold op e x := by
  split_ifs with h
  · rw [hc, hc]
    have hd : Disjoint (back k i) (back k (⟨i.val - k, by omega⟩ : Fin n)) := by
      rw [Finset.disjoint_left]
      intro j hj hj'
      simp only [back, Finset.mem_filter, Finset.mem_univ, true_and, Fin.le_def] at hj hj'
      omega
    have hf := Finset.fold_disjUnion (op := op) (f := x) (b₁ := e) (b₂ := e) hd
    rw [he] at hf
    rw [← hf]
    congr 1
    ext j
    simp only [back, Finset.mem_disjUnion, Finset.mem_filter, Finset.mem_univ, true_and, Fin.le_def]
    omega
  · rw [hc, fold_init op e he]
    congr 1
    ext j
    simp only [back, Finset.mem_filter, Finset.mem_univ, true_and, Fin.le_def]
    omega

/-- One doubling step to the left. -/
theorem fold_ahead (he : op e e = e) (x c : Fin n → α) (k m : ℕ) (hm : k + m = n) (hc : ∀ i, c i = (ahead k i).fold op e x) (i : Fin n) :
    op (c i) (if h : i.val < m then c ⟨i.val + k, by omega⟩ else e) = (ahead (2 * k) i).fold op e x := by
  split_ifs with h
  · rw [hc, hc]
    have hd : Disjoint (ahead k i) (ahead k (⟨i.val + k, by omega⟩ : Fin n)) := by
      rw [Finset.disjoint_left]
      intro j hj hj'
      simp only [ahead, Finset.mem_filter, Finset.mem_univ, true_and, Fin.le_def] at hj hj'
      omega
    have hf := Finset.fold_disjUnion (op := op) (f := x) (b₁ := e) (b₂ := e) hd
    rw [he] at hf
    rw [← hf]
    congr 1
    ext j
    simp only [ahead, Finset.mem_disjUnion, Finset.mem_filter, Finset.mem_univ, true_and, Fin.le_def]
    omega
  · rw [hc, fold_init op e he]
    congr 1
    ext j
    simp only [ahead, Finset.mem_filter, Finset.mem_univ, true_and, Fin.le_def]
    omega

end Fold

/-- The rows' positions. -/
def places : IVec S4x2048 32 := iota .tc S4x2048 32 [1] Facts₀.iota_S4x2048_d1_w32

/-- Every row moved `k` places to the right, `e` put in front. -/
def moveRight (k m : ℕ) (e : BitVec 32) (v : IVec S4x2048 32) (hs : S4x2048.Slices ![0, m] ⟨2, ![4, k]⟩)
    (ht : S4x2048.Slices ![0, 0] ⟨2, ![4, m]⟩) (hc : Shape.Concatenates [⟨2, ![4, k]⟩, ⟨2, ![4, m]⟩] S4x2048 1) : IVec S4x2048 32 :=
  select (cmpi .sge places (broadcast S4x2048 (BitVec.ofNat 32 k)))
    (concatenate S4x2048 1 [⟨⟨2, ![4, k]⟩, extractStridedSlice ⟨2, ![4, k]⟩ ![0, m] v hs⟩,
      ⟨⟨2, ![4, m]⟩, extractStridedSlice ⟨2, ![4, m]⟩ ![0, 0] v ht⟩] hc) (broadcast S4x2048 e)

/-- Every row moved `k` places to the left, `e` put behind. -/
def moveLeft (k m : ℕ) (e : BitVec 32) (v : IVec S4x2048 32) (hs : S4x2048.Slices ![0, k] ⟨2, ![4, m]⟩)
    (ht : S4x2048.Slices ![0, 0] ⟨2, ![4, k]⟩) (hc : Shape.Concatenates [⟨2, ![4, m]⟩, ⟨2, ![4, k]⟩] S4x2048 1) : IVec S4x2048 32 :=
  select (cmpi .slt places (broadcast S4x2048 (BitVec.ofNat 32 m)))
    (concatenate S4x2048 1 [⟨⟨2, ![4, m]⟩, extractStridedSlice ⟨2, ![4, m]⟩ ![0, k] v hs⟩,
      ⟨⟨2, ![4, k]⟩, extractStridedSlice ⟨2, ![4, k]⟩ ![0, 0] v ht⟩] hc) (broadcast S4x2048 e)

theorem toInt_ofNat_small (k : ℕ) (hk : k < 2147483648) : (BitVec.ofNat 32 k).toInt = k := by
  rw [BitVec.toInt_eq_toNat_cond, BitVec.toNat_ofNat]
  have : k % 2 ^ 32 = k := Nat.mod_eq_of_lt (by omega)
  rw [this, if_pos (by omega)]

/-- A position below 2048 is at least `k` as a signed word exactly when it is as a number. -/
theorem sge_word (i k : ℕ) (hi : i < 2048) (hk : k ≤ 2048) :
    IntOp.cmpi .sge (BitVec.ofNat 32 i) (BitVec.ofNat 32 k) = BitVec.ofBool (decide (k ≤ i)) := by
  have h1 : (BitVec.ofNat 32 i).toInt = i := by exact toInt_ofNat_small _ (by omega)
  have h2 : (BitVec.ofNat 32 k).toInt = k := by exact toInt_ofNat_small _ (by omega)
  simp only [IntOp.cmpi, BitVec.sle, h1, h2]
  congr 2
  simp

theorem slt_word (i k : ℕ) (hi : i < 2048) (hk : k ≤ 2048) :
    IntOp.cmpi .slt (BitVec.ofNat 32 i) (BitVec.ofNat 32 k) = BitVec.ofBool (decide (i < k)) := by
  have h1 : (BitVec.ofNat 32 i).toInt = i := by exact toInt_ofNat_small _ (by omega)
  have h2 : (BitVec.ofNat 32 k).toInt = k := by exact toInt_ofNat_small _ (by omega)
  simp only [IntOp.cmpi, BitVec.slt, h1, h2]
  congr 2
  simp

theorem places_apply (b : Fin 4) (i : Fin 2048) : places (ix2 b i) = BitVec.ofNat 32 i.val := by
  show BitVec.ofNat 32 (0 * 2048 + i.val) = _
  rw [Nat.zero_mul, Nat.zero_add]

theorem select_ofBool {α : Type} (p : Prop) [Decidable p] (x y : α) :
    Scalar.select (BitVec.ofBool (decide p)) x y = if p then x else y := by
  by_cases h : p <;> simp [Scalar.select, h]

theorem moveRight_apply (k m : ℕ) (hkm : k + m = 2048) (e : BitVec 32) (v : IVec S4x2048 32) (hs ht hc) (b : Fin 4) (i : Fin 2048) :
    moveRight k m e v hs ht hc (ix2 b i) = if h : k ≤ i.val then v (ix2 b ⟨i.val - k, by omega⟩) else e := by
  have hi := i.isLt
  unfold moveRight
  show Scalar.select (IntOp.cmpi .sge (places (ix2 b i)) (BitVec.ofNat 32 k)) _ e = _
  rw [places_apply, sge_word _ _ hi (by omega), select_ofBool]
  split_ifs with h
  · rw [concatenate_pair_apply, dif_neg (by show ¬ i.val < k; omega)]
    refine congrArg v (funext fun a => Fin.ext ?_)
    match a with
    | ⟨0, _⟩ => show 0 + b.val = b.val; omega
    | ⟨1, _⟩ => show 0 + (i.val - k) = i.val - k; omega
  · rfl

theorem moveLeft_apply (k m : ℕ) (hkm : k + m = 2048) (e : BitVec 32) (v : IVec S4x2048 32) (hs ht hc) (b : Fin 4) (i : Fin 2048) :
    moveLeft k m e v hs ht hc (ix2 b i) = if h : i.val < m then v (ix2 b ⟨i.val + k, by omega⟩) else e := by
  have hi := i.isLt
  unfold moveLeft
  show Scalar.select (IntOp.cmpi .slt (places (ix2 b i)) (BitVec.ofNat 32 m)) _ e = _
  rw [places_apply, slt_word _ _ hi (by omega), select_ofBool]
  split_ifs with h
  · rw [concatenate_pair_apply, dif_pos (by show i.val < m; exact h)]
    refine congrArg v (funext fun a => Fin.ext ?_)
    match a with
    | ⟨0, _⟩ => show 0 + b.val = b.val; omega
    | ⟨1, _⟩ => show k + i.val = i.val + k; omega
  · rfl

/-- One doubling step to the right: every entry with the one `k` places away. -/
def stepRight (op : BitVec 32 → BitVec 32 → BitVec 32) (e : BitVec 32) (k m : ℕ)
    (hs : S4x2048.Slices ![0, m] ⟨2, ![4, k]⟩) (ht : S4x2048.Slices ![0, 0] ⟨2, ![4, m]⟩)
    (hc : Shape.Concatenates [⟨2, ![4, k]⟩, ⟨2, ![4, m]⟩] S4x2048 1) (v : IVec S4x2048 32) : IVec S4x2048 32 :=
  fun j => op (v j) (moveRight k m e v hs ht hc j)

theorem stepRight_fold (op : BitVec 32 → BitVec 32 → BitVec 32) [Std.Commutative op] [Std.Associative op] (e : BitVec 32) (he : op e e = e)
    (k m k' : ℕ) (hkm : k + m = 2048) (hk' : k' = 2 * k) (hs ht hc) (b : Fin 4) (x : Fin 2048 → BitVec 32) (v : IVec S4x2048 32)
    (hv : ∀ i, v (ix2 b i) = (back k i).fold op e x) (i : Fin 2048) :
    stepRight op e k m hs ht hc v (ix2 b i) = (back k' i).fold op e x := by
  subst hk'
  unfold stepRight
  rw [moveRight_apply k m hkm]
  exact fold_back op e he x (fun i => v (ix2 b i)) k hv i

/-- The eleven doubling steps to the right. -/
def doubleRight (op : BitVec 32 → BitVec 32 → BitVec 32) (e : BitVec 32) (v : IVec S4x2048 32) : IVec S4x2048 32 :=
  stepRight op e 1024 1024 Facts₀.slices_S4x2048_o0_1024_S4x1024 Facts₀.slices_S4x2048_o0_0_S4x1024 Facts₀.concatenates_S4x1024_S4x1024_S4x2048_d1 <|
  stepRight op e 512 1536 Facts₀.slices_S4x2048_o0_1536_S4x512 Facts₀.slices_S4x2048_o0_0_S4x1536 Facts₀.concatenates_S4x512_S4x1536_S4x2048_d1 <|
  stepRight op e 256 1792 Facts₀.slices_S4x2048_o0_1792_S4x256 Facts₀.slices_S4x2048_o0_0_S4x1792 Facts₀.concatenates_S4x256_S4x1792_S4x2048_d1 <|
  stepRight op e 128 1920 Facts₀.slices_S4x2048_o0_1920_S4x128 Facts₀.slices_S4x2048_o0_0_S4x1920 Facts₀.concatenates_S4x128_S4x1920_S4x2048_d1 <|
  stepRight op e 64 1984 Facts₀.slices_S4x2048_o0_1984_S4x64 Facts₀.slices_S4x2048_o0_0_S4x1984 Facts₀.concatenates_S4x64_S4x1984_S4x2048_d1 <|
  stepRight op e 32 2016 Facts₀.slices_S4x2048_o0_2016_S4x32 Facts₀.slices_S4x2048_o0_0_S4x2016 Facts₀.concatenates_S4x32_S4x2016_S4x2048_d1 <|
  stepRight op e 16 2032 Facts₀.slices_S4x2048_o0_2032_S4x16 Facts₀.slices_S4x2048_o0_0_S4x2032 Facts₀.concatenates_S4x16_S4x2032_S4x2048_d1 <|
  stepRight op e 8 2040 Facts₀.slices_S4x2048_o0_2040_S4x8 Facts₀.slices_S4x2048_o0_0_S4x2040 Facts₀.concatenates_S4x8_S4x2040_S4x2048_d1 <|
  stepRight op e 4 2044 Facts₀.slices_S4x2048_o0_2044_S4x4 Facts₀.slices_S4x2048_o0_0_S4x2044 Facts₀.concatenates_S4x4_S4x2044_S4x2048_d1 <|
  stepRight op e 2 2046 Facts₀.slices_S4x2048_o0_2046_S4x2 Facts₀.slices_S4x2048_o0_0_S4x2046 Facts₀.concatenates_S4x2_S4x2046_S4x2048_d1 <|
  stepRight op e 1 2047 Facts₀.slices_S4x2048_o0_2047_S4x1 Facts₀.slices_S4x2048_o0_0_S4x2047 Facts₀.concatenates_S4x1_S4x2047_S4x2048_d1 <|
  v

/-- After all steps each place holds the fold of everything up to it. -/
theorem doubleRight_apply (op : BitVec 32 → BitVec 32 → BitVec 32) [Std.Commutative op] [Std.Associative op] (e : BitVec 32) (he : op e e = e)
    (v : IVec S4x2048 32) (b : Fin 4) (hv : ∀ i, op (v (ix2 b i)) e = v (ix2 b i)) (i : Fin 2048) :
    doubleRight op e v (ix2 b i) = (Finset.univ.filter fun j => j ≤ i).fold op e fun j => v (ix2 b j) := by
  have h0 : ∀ i, v (ix2 b i) = (back 1 i).fold op e fun j => v (ix2 b j) := fun i => by
    have : back 1 i = {i} := by
      ext j
      simp only [back, Finset.mem_filter, Finset.mem_univ, true_and, Fin.le_def, Finset.mem_singleton, Fin.ext_iff]
      omega
    rw [this, Finset.fold_singleton, hv]
  have h := stepRight_fold op e he 1024 1024 2048 rfl rfl (Facts₀.slices_S4x2048_o0_1024_S4x1024) (Facts₀.slices_S4x2048_o0_0_S4x1024) (Facts₀.concatenates_S4x1024_S4x1024_S4x2048_d1) b _ _ <|
    stepRight_fold op e he 512 1536 1024 rfl rfl (Facts₀.slices_S4x2048_o0_1536_S4x512) (Facts₀.slices_S4x2048_o0_0_S4x1536) (Facts₀.concatenates_S4x512_S4x1536_S4x2048_d1) b _ _ <|
    stepRight_fold op e he 256 1792 512 rfl rfl (Facts₀.slices_S4x2048_o0_1792_S4x256) (Facts₀.slices_S4x2048_o0_0_S4x1792) (Facts₀.concatenates_S4x256_S4x1792_S4x2048_d1) b _ _ <|
    stepRight_fold op e he 128 1920 256 rfl rfl (Facts₀.slices_S4x2048_o0_1920_S4x128) (Facts₀.slices_S4x2048_o0_0_S4x1920) (Facts₀.concatenates_S4x128_S4x1920_S4x2048_d1) b _ _ <|
    stepRight_fold op e he 64 1984 128 rfl rfl (Facts₀.slices_S4x2048_o0_1984_S4x64) (Facts₀.slices_S4x2048_o0_0_S4x1984) (Facts₀.concatenates_S4x64_S4x1984_S4x2048_d1) b _ _ <|
    stepRight_fold op e he 32 2016 64 rfl rfl (Facts₀.slices_S4x2048_o0_2016_S4x32) (Facts₀.slices_S4x2048_o0_0_S4x2016) (Facts₀.concatenates_S4x32_S4x2016_S4x2048_d1) b _ _ <|
    stepRight_fold op e he 16 2032 32 rfl rfl (Facts₀.slices_S4x2048_o0_2032_S4x16) (Facts₀.slices_S4x2048_o0_0_S4x2032) (Facts₀.concatenates_S4x16_S4x2032_S4x2048_d1) b _ _ <|
    stepRight_fold op e he 8 2040 16 rfl rfl (Facts₀.slices_S4x2048_o0_2040_S4x8) (Facts₀.slices_S4x2048_o0_0_S4x2040) (Facts₀.concatenates_S4x8_S4x2040_S4x2048_d1) b _ _ <|
    stepRight_fold op e he 4 2044 8 rfl rfl (Facts₀.slices_S4x2048_o0_2044_S4x4) (Facts₀.slices_S4x2048_o0_0_S4x2044) (Facts₀.concatenates_S4x4_S4x2044_S4x2048_d1) b _ _ <|
    stepRight_fold op e he 2 2046 4 rfl rfl (Facts₀.slices_S4x2048_o0_2046_S4x2) (Facts₀.slices_S4x2048_o0_0_S4x2046) (Facts₀.concatenates_S4x2_S4x2046_S4x2048_d1) b _ _ <|
    stepRight_fold op e he 1 2047 2 rfl rfl (Facts₀.slices_S4x2048_o0_2047_S4x1) (Facts₀.slices_S4x2048_o0_0_S4x2047) (Facts₀.concatenates_S4x1_S4x2047_S4x2048_d1) b _ _ <|
    h0
  have ha : back 2048 i = Finset.univ.filter fun j => j ≤ i := by
    ext j
    have := i.isLt
    have := j.isLt
    simp only [back, Finset.mem_filter, Finset.mem_univ, true_and, Fin.le_def]
    omega
  rw [← ha]
  exact h i

/-- One doubling step to the left: every entry with the one `k` places away. -/
def stepLeft (op : BitVec 32 → BitVec 32 → BitVec 32) (e : BitVec 32) (k m : ℕ)
    (hs : S4x2048.Slices ![0, k] ⟨2, ![4, m]⟩) (ht : S4x2048.Slices ![0, 0] ⟨2, ![4, k]⟩)
    (hc : Shape.Concatenates [⟨2, ![4, m]⟩, ⟨2, ![4, k]⟩] S4x2048 1) (v : IVec S4x2048 32) : IVec S4x2048 32 :=
  fun j => op (v j) (moveLeft k m e v hs ht hc j)

theorem stepLeft_fold (op : BitVec 32 → BitVec 32 → BitVec 32) [Std.Commutative op] [Std.Associative op] (e : BitVec 32) (he : op e e = e)
    (k m k' : ℕ) (hkm : k + m = 2048) (hk' : k' = 2 * k) (hs ht hc) (b : Fin 4) (x : Fin 2048 → BitVec 32) (v : IVec S4x2048 32)
    (hv : ∀ i, v (ix2 b i) = (ahead k i).fold op e x) (i : Fin 2048) :
    stepLeft op e k m hs ht hc v (ix2 b i) = (ahead k' i).fold op e x := by
  subst hk'
  unfold stepLeft
  rw [moveLeft_apply k m hkm]
  exact fold_ahead op e he x (fun i => v (ix2 b i)) k m hkm hv i

/-- The eleven doubling steps to the left. -/
def doubleLeft (op : BitVec 32 → BitVec 32 → BitVec 32) (e : BitVec 32) (v : IVec S4x2048 32) : IVec S4x2048 32 :=
  stepLeft op e 1024 1024 Facts₀.slices_S4x2048_o0_1024_S4x1024 Facts₀.slices_S4x2048_o0_0_S4x1024 Facts₀.concatenates_S4x1024_S4x1024_S4x2048_d1 <|
  stepLeft op e 512 1536 Facts₀.slices_S4x2048_o0_512_S4x1536 Facts₀.slices_S4x2048_o0_0_S4x512 Facts₀.concatenates_S4x1536_S4x512_S4x2048_d1 <|
  stepLeft op e 256 1792 Facts₀.slices_S4x2048_o0_256_S4x1792 Facts₀.slices_S4x2048_o0_0_S4x256 Facts₀.concatenates_S4x1792_S4x256_S4x2048_d1 <|
  stepLeft op e 128 1920 Facts₀.slices_S4x2048_o0_128_S4x1920 Facts₀.slices_S4x2048_o0_0_S4x128 Facts₀.concatenates_S4x1920_S4x128_S4x2048_d1 <|
  stepLeft op e 64 1984 Facts₀.slices_S4x2048_o0_64_S4x1984 Facts₀.slices_S4x2048_o0_0_S4x64 Facts₀.concatenates_S4x1984_S4x64_S4x2048_d1 <|
  stepLeft op e 32 2016 Facts₀.slices_S4x2048_o0_32_S4x2016 Facts₀.slices_S4x2048_o0_0_S4x32 Facts₀.concatenates_S4x2016_S4x32_S4x2048_d1 <|
  stepLeft op e 16 2032 Facts₀.slices_S4x2048_o0_16_S4x2032 Facts₀.slices_S4x2048_o0_0_S4x16 Facts₀.concatenates_S4x2032_S4x16_S4x2048_d1 <|
  stepLeft op e 8 2040 Facts₀.slices_S4x2048_o0_8_S4x2040 Facts₀.slices_S4x2048_o0_0_S4x8 Facts₀.concatenates_S4x2040_S4x8_S4x2048_d1 <|
  stepLeft op e 4 2044 Facts₀.slices_S4x2048_o0_4_S4x2044 Facts₀.slices_S4x2048_o0_0_S4x4 Facts₀.concatenates_S4x2044_S4x4_S4x2048_d1 <|
  stepLeft op e 2 2046 Facts₀.slices_S4x2048_o0_2_S4x2046 Facts₀.slices_S4x2048_o0_0_S4x2 Facts₀.concatenates_S4x2046_S4x2_S4x2048_d1 <|
  stepLeft op e 1 2047 Facts₀.slices_S4x2048_o0_1_S4x2047 Facts₀.slices_S4x2048_o0_0_S4x1 Facts₀.concatenates_S4x2047_S4x1_S4x2048_d1 <|
  v

/-- After all steps each place holds the fold of everything from it on. -/
theorem doubleLeft_apply (op : BitVec 32 → BitVec 32 → BitVec 32) [Std.Commutative op] [Std.Associative op] (e : BitVec 32) (he : op e e = e)
    (v : IVec S4x2048 32) (b : Fin 4) (hv : ∀ i, op (v (ix2 b i)) e = v (ix2 b i)) (i : Fin 2048) :
    doubleLeft op e v (ix2 b i) = (Finset.univ.filter fun j => i ≤ j).fold op e fun j => v (ix2 b j) := by
  have h0 : ∀ i, v (ix2 b i) = (ahead 1 i).fold op e fun j => v (ix2 b j) := fun i => by
    have : ahead 1 i = {i} := by
      ext j
      simp only [ahead, Finset.mem_filter, Finset.mem_univ, true_and, Fin.le_def, Finset.mem_singleton, Fin.ext_iff]
      omega
    rw [this, Finset.fold_singleton, hv]
  have h := stepLeft_fold op e he 1024 1024 2048 rfl rfl (Facts₀.slices_S4x2048_o0_1024_S4x1024) (Facts₀.slices_S4x2048_o0_0_S4x1024) (Facts₀.concatenates_S4x1024_S4x1024_S4x2048_d1) b _ _ <|
    stepLeft_fold op e he 512 1536 1024 rfl rfl (Facts₀.slices_S4x2048_o0_512_S4x1536) (Facts₀.slices_S4x2048_o0_0_S4x512) (Facts₀.concatenates_S4x1536_S4x512_S4x2048_d1) b _ _ <|
    stepLeft_fold op e he 256 1792 512 rfl rfl (Facts₀.slices_S4x2048_o0_256_S4x1792) (Facts₀.slices_S4x2048_o0_0_S4x256) (Facts₀.concatenates_S4x1792_S4x256_S4x2048_d1) b _ _ <|
    stepLeft_fold op e he 128 1920 256 rfl rfl (Facts₀.slices_S4x2048_o0_128_S4x1920) (Facts₀.slices_S4x2048_o0_0_S4x128) (Facts₀.concatenates_S4x1920_S4x128_S4x2048_d1) b _ _ <|
    stepLeft_fold op e he 64 1984 128 rfl rfl (Facts₀.slices_S4x2048_o0_64_S4x1984) (Facts₀.slices_S4x2048_o0_0_S4x64) (Facts₀.concatenates_S4x1984_S4x64_S4x2048_d1) b _ _ <|
    stepLeft_fold op e he 32 2016 64 rfl rfl (Facts₀.slices_S4x2048_o0_32_S4x2016) (Facts₀.slices_S4x2048_o0_0_S4x32) (Facts₀.concatenates_S4x2016_S4x32_S4x2048_d1) b _ _ <|
    stepLeft_fold op e he 16 2032 32 rfl rfl (Facts₀.slices_S4x2048_o0_16_S4x2032) (Facts₀.slices_S4x2048_o0_0_S4x16) (Facts₀.concatenates_S4x2032_S4x16_S4x2048_d1) b _ _ <|
    stepLeft_fold op e he 8 2040 16 rfl rfl (Facts₀.slices_S4x2048_o0_8_S4x2040) (Facts₀.slices_S4x2048_o0_0_S4x8) (Facts₀.concatenates_S4x2040_S4x8_S4x2048_d1) b _ _ <|
    stepLeft_fold op e he 4 2044 8 rfl rfl (Facts₀.slices_S4x2048_o0_4_S4x2044) (Facts₀.slices_S4x2048_o0_0_S4x4) (Facts₀.concatenates_S4x2044_S4x4_S4x2048_d1) b _ _ <|
    stepLeft_fold op e he 2 2046 4 rfl rfl (Facts₀.slices_S4x2048_o0_2_S4x2046) (Facts₀.slices_S4x2048_o0_0_S4x2) (Facts₀.concatenates_S4x2046_S4x2_S4x2048_d1) b _ _ <|
    stepLeft_fold op e he 1 2047 2 rfl rfl (Facts₀.slices_S4x2048_o0_1_S4x2047) (Facts₀.slices_S4x2048_o0_0_S4x1) (Facts₀.concatenates_S4x2047_S4x1_S4x2048_d1) b _ _ <|
    h0
  have ha : ahead 2048 i = Finset.univ.filter fun j => i ≤ j := by
    ext j
    have := i.isLt
    have := j.isLt
    simp only [ahead, Finset.mem_filter, Finset.mem_univ, true_and, Fin.le_def]
    omega
  rw [← ha]
  exact h i

end Cert.Proof

end
-- ==== Proof.Outs.lean ====
/- What the kernel keeps between grid points and what it writes at each point: the folded table and the three index arrays are computed at
   the first point from the arguments, kept unchanged afterwards, and each point's block of the result is one expression over them. -/
module

public import proofs.«01_k».proof.KernelIdeal
public import proofs.«01_k».proof.Proof.Gen.KernelIdeal
public import proofs.«01_k».proof.Proof.Gen.KernelIdeal.Value
public import proofs.«01_k».proof.Proof.Scan
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.Proof

open Idealize.ShloMosaic Idealize.ShloMosaic.TcCoe Idealize.SL.Sem Cert.KernelIdeal Cert.KernelIdeal.Gen Cert.KernelIdeal.Value

/-- The index of the depth table, as the kernel computes it from the tags. -/
def depthIdx (T : Vec Ideal S4x2048 .i32) : IVec S4x2048 32 :=
  k0_pay9 places (k0_pay6 places (k0_pay3 (F := Ideal) T) k0_pay4 (k0_pay5 (F := Ideal) T)) (k0_pay7 places)
    (k0_pay8 places (k0_pay3 (F := Ideal) T) k0_pay4 (k0_pay5 (F := Ideal) T))

/-- The index of the conjunction table. -/
def conjIdx (T : Vec Ideal S4x2048 .i32) : IVec S4x2048 32 :=
  k0_pay13 (k0_pay12 places (k0_pay11 places (k0_pay10 (F := Ideal) T)))

/-- The position of the last verb so far, after the first seven doubling steps. -/
def prevVerb2 (T : Vec Ideal S4x2048 .i32) : IVec S4x2048 32 :=
  k0_pay20 places (k0_pay15 (F := Ideal) T places) (k0_pay17 places) (k0_pay18 (F := Ideal) T places) (k0_pay19 (F := Ideal) T places)

def prevVerb5 (T : Vec Ideal S4x2048 .i32) : IVec S4x2048 32 :=
  k0_pay25 places (prevVerb2 T) (k0_pay22 places)
    (k0_pay23 places (k0_pay15 (F := Ideal) T places) (k0_pay17 places) (k0_pay18 (F := Ideal) T places) (k0_pay19 (F := Ideal) T places))
    (k0_pay24 places (k0_pay15 (F := Ideal) T places) (k0_pay17 places) (k0_pay18 (F := Ideal) T places) (k0_pay19 (F := Ideal) T places))

def prevVerb5Head (T : Vec Ideal S4x2048 .i32) : IVec S4x256 32 :=
  k0_pay28 places (prevVerb2 T) (k0_pay22 places)
    (k0_pay23 places (k0_pay15 (F := Ideal) T places) (k0_pay17 places) (k0_pay18 (F := Ideal) T places) (k0_pay19 (F := Ideal) T places))
    (k0_pay24 places (k0_pay15 (F := Ideal) T places) (k0_pay17 places) (k0_pay18 (F := Ideal) T places) (k0_pay19 (F := Ideal) T places))

def prevVerb5Tail (T : Vec Ideal S4x2048 .i32) : IVec S4x1792 32 :=
  k0_pay29 places (prevVerb2 T) (k0_pay22 places)
    (k0_pay23 places (k0_pay15 (F := Ideal) T places) (k0_pay17 places) (k0_pay18 (F := Ideal) T places) (k0_pay19 (F := Ideal) T places))
    (k0_pay24 places (k0_pay15 (F := Ideal) T places) (k0_pay17 places) (k0_pay18 (F := Ideal) T places) (k0_pay19 (F := Ideal) T places))

/-- The position of the next verb, after the first eight doubling steps. -/
def nextVerb5 (T : Vec Ideal S4x2048 .i32) : IVec S4x2048 32 :=
  k0_pay26 places (k0_pay21 places (k0_pay16 (F := Ideal) T places))

/-- How far back the last verb is. -/
def leftDist (T : Vec Ideal S4x2048 .i32) : IVec S4x2048 32 :=
  k0_pay30 places (prevVerb5 T) (k0_pay27 places) (prevVerb5Head T) (prevVerb5Tail T)

/-- How far ahead the next verb is. -/
def rightDist (T : Vec Ideal S4x2048 .i32) : IVec S4x2048 32 :=
  k0_pay31 places (nextVerb5 T)

/-- The index of the verb distance table. -/
def verbIdx (T : Vec Ideal S4x2048 .i32) : IVec S4x2048 32 :=
  k0_pay34 (F := Ideal) (k0_pay14 (F := Ideal) T) (leftDist T) (rightDist T)
    (k0_pay32 places (prevVerb5 T) (nextVerb5 T) (k0_pay27 places) (prevVerb5Head T) (prevVerb5Tail T)) k0_pay33

/-- The folded table: every embedding table times its rows of the weight. -/
def table (D : Vec Ideal S8x192 .f32) (V : Vec Ideal S33x192 .f32) (C : Vec Ideal S8x192 .f32) (R : Vec Ideal S1x192 .f32)
    (W : Vec Ideal S768x768 .f32) : FVec Ideal S64x768 .f32 :=
  k0_pay2 (View.ld W (Rect.unit (s := S768x768) ![0, 0] S192x768.size Facts₀.inb_S768x768_S192x768_0_0))
    (View.ld W (Rect.unit (s := S768x768) ![192, 0] S192x768.size Facts₀.inb_S768x768_S192x768_192_0))
    (View.ld W (Rect.unit (s := S768x768) ![384, 0] S192x768.size Facts₀.inb_S768x768_S192x768_384_0))
    (View.ld W (Rect.unit (s := S768x768) ![576, 0] S192x768.size Facts₀.inb_S768x768_S192x768_576_0)) D V C R

/-- The rectangle of an index array that a grid point reads. -/
abbrev rowRect (i : grid0.Coords) : Rect S4x2048 := Rect.unit (s := S4x2048) (k0_off1 i) S1x512.size (Facts₀.k0_off1_inb i)

/-- The block a grid point writes, over the three index arrays, the lengths and the folded table. -/
def blockOf (i : grid0.Coords) (d v c : IVec S4x2048 32) (s : Vec Ideal S4 .i32) (tab : FVec Ideal S64x768 .f32) : FVec Ideal S1x512x768 .f32 :=
  k0_pay1 (k0_pay35 i (View.ld (e' := .i32) (Val := Elt Ideal) d (rowRect i)) (View.ld (e' := .i32) (Val := Elt Ideal) v (rowRect i))
      (View.ld (e' := .i32) (Val := Elt Ideal) c (rowRect i))
      (View.ld (e' := .i32) (Val := Elt Ideal) s (Rect.unit (s := S4) (k0_off2 i) S1.size (Facts₀.k0_off2_inb i)) (Shape.Idx.first (Nat.lt_of_lt_of_eq Nat.zero_lt_one Facts₀.numel1_S1.symm))) tab)
    (k0_pay36 i (View.ld (e' := .i32) (Val := Elt Ideal) d (rowRect i)) (View.ld (e' := .i32) (Val := Elt Ideal) v (rowRect i))
      (View.ld (e' := .i32) (Val := Elt Ideal) c (rowRect i))
      (View.ld (e' := .i32) (Val := Elt Ideal) s (Rect.unit (s := S4) (k0_off2 i) S1.size (Facts₀.k0_off2_inb i)) (Shape.Idx.first (Nat.lt_of_lt_of_eq Nat.zero_lt_one Facts₀.numel1_S1.symm))) tab)

/-- A load of a whole buffer at contents `X` through a rectangle reads `X` there. -/
theorem readAt_unread {sp : Space} {κ : Kind} {S : Shape} {e : EltTy} (M : Memref sig κ sp S e) (h : M.IsWhole) (r : Rect S)
    (X : S.Idx → Elt Ideal e) : View.readAt (Elt Ideal) M.view r.toLoadRect (h.unread X) = View.ld X r := by
  rw [View.readAt_eq_ld, Memref.IsWhole.read_unread]

variable (m : (ℓ : Loc nD τ sig) → Buf (Elt Ideal) ℓ) (c : Dev nD)

/-- The load of the whole tags. -/
abbrev tagsLoad (t : Fin cfg0.N) : Vec Ideal S4x2048 .i32 :=
  View.readAt (Elt Ideal) (ms0_0 t).view (Rect.unit (s := S4x2048) ![0, 0] S4x2048.size Facts₀.inb_S4x2048_S4x2048_0_0).toLoadRect ((hs0_0 t).unread (iblk m c 0 t))

theorem tagsLoad_eq (t : Fin cfg0.N) : tagsLoad m c t = iblk m c 0 t := by
  unfold tagsLoad
  rw [readAt_unread]
  exact View.ld_unit_lit' _ _ (by decide)

theorem kept_depth (t : Fin cfg0.N) (h : t.val % 16 = 0) : (outsAt0 m c t.val t.isLt).2.2.1 = depthIdx (iblk m c 0 t) := by
  rw [outsAt0_A m c t h]
  dsimp only
  delta sout0_A_1
  rw [View.read_writes_junk_eq_canon]
  refine (?_ : _ = View.canon [⟨Rect.unit ![0, 0] S4x2048.size Facts₀.inb_S4x2048_S4x2048_0_0, depthIdx (tagsLoad m c t)⟩]).trans ?_
  · refine congrArg View.canon ?_
    sl_kernel_rfl
  · rw [tagsLoad_eq]
    exact View.canon_cons_unit_lit' _ _ _ (by decide)

theorem kept_verb (t : Fin cfg0.N) (h : t.val % 16 = 0) : (outsAt0 m c t.val t.isLt).2.2.2.1 = verbIdx (iblk m c 0 t) := by
  rw [outsAt0_A m c t h]
  dsimp only
  delta sout0_A_2
  rw [View.read_writes_junk_eq_canon]
  refine (?_ : _ = View.canon [⟨Rect.unit ![0, 0] S4x2048.size Facts₀.inb_S4x2048_S4x2048_0_0, verbIdx (tagsLoad m c t)⟩]).trans ?_
  · refine congrArg View.canon ?_
    sl_kernel_rfl
  · rw [tagsLoad_eq]
    exact View.canon_cons_unit_lit' _ _ _ (by decide)

theorem kept_conj (t : Fin cfg0.N) (h : t.val % 16 = 0) : (outsAt0 m c t.val t.isLt).2.2.2.2 = conjIdx (iblk m c 0 t) := by
  rw [outsAt0_A m c t h]
  dsimp only
  delta sout0_A_3
  rw [View.read_writes_junk_eq_canon]
  refine (?_ : _ = View.canon [⟨Rect.unit ![0, 0] S4x2048.size Facts₀.inb_S4x2048_S4x2048_0_0, conjIdx (tagsLoad m c t)⟩]).trans ?_
  · refine congrArg View.canon ?_
    sl_kernel_rfl
  · rw [tagsLoad_eq]
    exact View.canon_cons_unit_lit' _ _ _ (by decide)

/-- The stores into the folded table's buffer at the first point. -/
abbrev tablePiece (t : Fin cfg0.N) : FVec Ideal S64x768 .f32 :=
  k0_pay2 (View.readAt (Elt Ideal) (ms0_6 t).view (Rect.unit (s := S768x768) ![0, 0] S192x768.size Facts₀.inb_S768x768_S192x768_0_0).toLoadRect ((hs0_6 t).unread (iblk m c 6 t)))
    (View.readAt (Elt Ideal) (ms0_6 t).view (Rect.unit (s := S768x768) ![192, 0] S192x768.size Facts₀.inb_S768x768_S192x768_192_0).toLoadRect ((hs0_6 t).unread (iblk m c 6 t)))
    (View.readAt (Elt Ideal) (ms0_6 t).view (Rect.unit (s := S768x768) ![384, 0] S192x768.size Facts₀.inb_S768x768_S192x768_384_0).toLoadRect ((hs0_6 t).unread (iblk m c 6 t)))
    (View.readAt (Elt Ideal) (ms0_6 t).view (Rect.unit (s := S768x768) ![576, 0] S192x768.size Facts₀.inb_S768x768_S192x768_576_0).toLoadRect ((hs0_6 t).unread (iblk m c 6 t)))
    (View.readAt (Elt Ideal) (ms0_2 t).view (Rect.unit (s := S8x192) ![0, 0] S8x192.size Facts₀.inb_S8x192_S8x192_0_0).toLoadRect ((hs0_2 t).unread (iblk m c 2 t)))
    (View.readAt (Elt Ideal) (ms0_3 t).view (Rect.unit (s := S33x192) ![0, 0] S33x192.size Facts₀.inb_S33x192_S33x192_0_0).toLoadRect ((hs0_3 t).unread (iblk m c 3 t)))
    (View.readAt (Elt Ideal) (ms0_4 t).view (Rect.unit (s := S8x192) ![0, 0] S8x192.size Facts₀.inb_S8x192_S8x192_0_0).toLoadRect ((hs0_4 t).unread (iblk m c 4 t)))
    (View.readAt (Elt Ideal) (ms0_5 t).view (Rect.unit (s := S1x192) ![0, 0] S1x192.size Facts₀.inb_S1x192_S1x192_0_0).toLoadRect ((hs0_5 t).unread (iblk m c 5 t)))

theorem tablePiece_eq (t : Fin cfg0.N) :
    tablePiece m c t = table (iblk m c 2 t) (iblk m c 3 t) (iblk m c 4 t) (iblk m c 5 t) (iblk m c 6 t) := by
  unfold tablePiece table
  rw [readAt_unread, readAt_unread, readAt_unread, readAt_unread, readAt_unread, readAt_unread, readAt_unread, readAt_unread]
  congr 1 <;> exact View.ld_unit_lit' _ _ (by decide)

theorem kept_table (t : Fin cfg0.N) (h : t.val % 16 = 0) :
    (outsAt0 m c t.val t.isLt).2.1 = table (iblk m c 2 t) (iblk m c 3 t) (iblk m c 4 t) (iblk m c 5 t) (iblk m c 6 t) := by
  rw [outsAt0_A m c t h]
  dsimp only
  delta sout0_A_0
  rw [View.read_writes_junk_eq_canon]
  refine (?_ : _ = View.canon [⟨Rect.unit ![0, 0] S64x768.size Facts₀.inb_S64x768_S64x768_0_0, tablePiece m c t⟩]).trans ?_
  · refine congrArg View.canon ?_
    sl_kernel_rfl
  · rw [tablePiece_eq]
    exact View.canon_cons_unit_lit' _ _ _ (by decide)

/-- At a later point: the block over what the point before left. -/
theorem out_later (t : Fin cfg0.N) (h : ¬ t.val % 16 = 0) :
    (outsAt0 m c t.val t.isLt).1 = blockOf (grid0.coords t) (outsAt0 m c (t.val - 1) (Nat.lt_of_le_of_lt (Nat.sub_le _ _) t.isLt)).2.2.1
      (outsAt0 m c (t.val - 1) (Nat.lt_of_le_of_lt (Nat.sub_le _ _) t.isLt)).2.2.2.1
      (outsAt0 m c (t.val - 1) (Nat.lt_of_le_of_lt (Nat.sub_le _ _) t.isLt)).2.2.2.2 (iblk m c 1 t)
      (outsAt0 m c (t.val - 1) (Nat.lt_of_le_of_lt (Nat.sub_le _ _) t.isLt)).2.1 := by
  rw [outsAt0_B m c t h]
  frame_open
  rw [View.read_writes_junk_eq_canon]
  refine (View.canon_cons_unit_lit' _ _ _ (by decide)).trans ?_
  rw [readAt_unread, readAt_unread, readAt_unread, readAt_unread, readAt_unread]
  have hT : ∀ X : FVec Ideal S64x768 .f32, View.ld (e' := .f32) (Val := Elt Ideal) X
      (Rect.unit (s := S64x768) ![0, 0] S64x768.size Facts₀.inb_S64x768_S64x768_0_0) = X :=
    fun X => View.ld_unit_lit' _ _ (by decide)
  rw [hT]
  rfl

/-- A load through a rectangle of a buffer that was stored whole reads the stored contents there. -/
theorem readCov_whole {sp : Space} {κ : Kind} (v : View sig κ sp S4x2048 .i32) (X : IVec S4x2048 32) (B : Rect S4x2048) :
    v.readCov (Val := Elt Ideal) [⟨Rect.unit ![0, 0] S4x2048.size Facts₀.inb_S4x2048_S4x2048_0_0, X⟩] B.toLoadRect =
      View.ld (e' := .i32) (Val := Elt Ideal) X B := by
  rw [View.readCov_eq_canon', View.canon_cons_unit_lit' _ _ _ (by decide)]

/-- The block the first point stores, with its loads as they are made. -/
def storedBlock (t : Fin cfg0.N) : FVec Ideal S1x512x768 .f32 :=
  let d := scM0_1.view.readCov (Val := Elt Ideal) [⟨Rect.unit ![0, 0] S4x2048.size Facts₀.inb_S4x2048_S4x2048_0_0, depthIdx (tagsLoad m c t)⟩] (rowRect (grid0.coords t)).toLoadRect
  let v := scM0_2.view.readCov (Val := Elt Ideal) [⟨Rect.unit ![0, 0] S4x2048.size Facts₀.inb_S4x2048_S4x2048_0_0, verbIdx (tagsLoad m c t)⟩] (rowRect (grid0.coords t)).toLoadRect
  let n := scM0_3.view.readCov (Val := Elt Ideal) [⟨Rect.unit ![0, 0] S4x2048.size Facts₀.inb_S4x2048_S4x2048_0_0, conjIdx (tagsLoad m c t)⟩] (rowRect (grid0.coords t)).toLoadRect
  let s := View.readAt (Elt Ideal) (ms0_1 t).view (Rect.unit (s := S4) (k0_off2 (grid0.coords t)) S1.size (Facts₀.k0_off2_inb (grid0.coords t))).toLoadRect
    ((hs0_1 t).unread (iblk m c 1 t)) (Shape.Idx.first (Nat.lt_of_lt_of_eq Nat.zero_lt_one Facts₀.numel1_S1.symm))
  let b := scM0_0.view.readCov (Val := Elt Ideal) [⟨Rect.unit ![0, 0] S64x768.size Facts₀.inb_S64x768_S64x768_0_0, tablePiece m c t⟩]
    (Rect.unit (s := S64x768) ![0, 0] S64x768.size Facts₀.inb_S64x768_S64x768_0_0).toLoadRect
  k0_pay1 (k0_pay35 (grid0.coords t) d v n s b) (k0_pay36 (grid0.coords t) d v n s b)

/-- At the first point: the block over what that point has just stored. -/
theorem out_first (t : Fin cfg0.N) (h : t.val % 16 = 0) :
    (outsAt0 m c t.val t.isLt).1 = blockOf (grid0.coords t) (outsAt0 m c t.val t.isLt).2.2.1 (outsAt0 m c t.val t.isLt).2.2.2.1
      (outsAt0 m c t.val t.isLt).2.2.2.2 (iblk m c 1 t) (outsAt0 m c t.val t.isLt).2.1 := by
  rw [kept_depth m c t h, kept_verb m c t h, kept_conj m c t h, kept_table m c t h, ← tagsLoad_eq, ← tablePiece_eq]
  rw [outsAt0_A m c t h]
  dsimp only
  delta out0_A_7
  rw [View.read_writes_junk_eq_canon]
  refine (?_ : _ = View.canon [⟨Rect.unit ![0, 0, 0] S1x512x768.size Facts₀.inb_S1x512x768_S1x512x768_0_0_0, storedBlock m c t⟩]).trans ?_
  · refine congrArg View.canon ?_
    sl_kernel_rfl
  · refine (View.canon_cons_unit_lit' _ _ _ (by decide)).trans ?_
    unfold storedBlock
    rw [readCov_whole, readCov_whole, readCov_whole, readAt_unread, View.readCov_unit_lit' _ _ _ (by decide)]
    rfl

theorem still_depth (t : Fin cfg0.N) (h : ¬ t.val % 16 = 0) : (outsAt0 m c t.val t.isLt).2.2.1 =
    (outsAt0 m c (t.val - 1) (Nat.lt_of_le_of_lt (Nat.sub_le _ _) t.isLt)).2.2.1 := by
  rw [outsAt0_B m c t h]; rfl
theorem still_verb (t : Fin cfg0.N) (h : ¬ t.val % 16 = 0) : (outsAt0 m c t.val t.isLt).2.2.2.1 =
    (outsAt0 m c (t.val - 1) (Nat.lt_of_le_of_lt (Nat.sub_le _ _) t.isLt)).2.2.2.1 := by
  rw [outsAt0_B m c t h]; rfl
theorem still_conj (t : Fin cfg0.N) (h : ¬ t.val % 16 = 0) : (outsAt0 m c t.val t.isLt).2.2.2.2 =
    (outsAt0 m c (t.val - 1) (Nat.lt_of_le_of_lt (Nat.sub_le _ _) t.isLt)).2.2.2.2 := by
  rw [outsAt0_B m c t h]; rfl
theorem still_table (t : Fin cfg0.N) (h : ¬ t.val % 16 = 0) : (outsAt0 m c t.val t.isLt).2.1 =
    (outsAt0 m c (t.val - 1) (Nat.lt_of_le_of_lt (Nat.sub_le _ _) t.isLt)).2.1 := by
  rw [outsAt0_B m c t h]; rfl

/-! ## The input blocks are the whole arguments -/

theorem idx_0 : ∀ (t : Fin cfg0.N) (a : Fin 2), (cfg0.win 0).index t a = 0 :=
  (by decide +kernel : ∀ (t : Fin grid0.N) (a : Fin 2), win0_0.index t a = 0)

theorem iblk_0 (t : Fin cfg0.N) : iblk m c 0 t = m ((c : Thread nD τ).loc main_arg1) := by
  funext y
  refine congrArg (m ((c : Thread nD τ).loc main_arg1)) (funext fun a => Fin.ext ?_)
  blk_simp
  rw [idx_0 t a]; omega

theorem idx_1 : ∀ (t : Fin cfg0.N) (a : Fin 1), (cfg0.win 1).index t a = 0 :=
  (by decide +kernel : ∀ (t : Fin grid0.N) (a : Fin 1), win0_1.index t a = 0)

theorem iblk_1 (t : Fin cfg0.N) : iblk m c 1 t = m ((c : Thread nD τ).loc main_arg2) := by
  funext y
  refine congrArg (m ((c : Thread nD τ).loc main_arg2)) (funext fun a => Fin.ext ?_)
  blk_simp
  rw [idx_1 t a]; omega

theorem idx_2 : ∀ (t : Fin cfg0.N) (a : Fin 2), (cfg0.win 2).index t a = 0 :=
  (by decide +kernel : ∀ (t : Fin grid0.N) (a : Fin 2), win0_2.index t a = 0)

theorem iblk_2 (t : Fin cfg0.N) : iblk m c 2 t = m ((c : Thread nD τ).loc main_arg4) := by
  funext y
  refine congrArg (m ((c : Thread nD τ).loc main_arg4)) (funext fun a => Fin.ext ?_)
  blk_simp
  rw [idx_2 t a]; omega

theorem idx_3 : ∀ (t : Fin cfg0.N) (a : Fin 2), (cfg0.win 3).index t a = 0 :=
  (by decide +kernel : ∀ (t : Fin grid0.N) (a : Fin 2), win0_3.index t a = 0)

theorem iblk_3 (t : Fin cfg0.N) : iblk m c 3 t = m ((c : Thread nD τ).loc main_arg5) := by
  funext y
  refine congrArg (m ((c : Thread nD τ).loc main_arg5)) (funext fun a => Fin.ext ?_)
  blk_simp
  rw [idx_3 t a]; omega

theorem idx_4 : ∀ (t : Fin cfg0.N) (a : Fin 2), (cfg0.win 4).index t a = 0 :=
  (by decide +kernel : ∀ (t : Fin grid0.N) (a : Fin 2), win0_4.index t a = 0)

theorem iblk_4 (t : Fin cfg0.N) : iblk m c 4 t = m ((c : Thread nD τ).loc main_arg6) := by
  funext y
  refine congrArg (m ((c : Thread nD τ).loc main_arg6)) (funext fun a => Fin.ext ?_)
  blk_simp
  rw [idx_4 t a]; omega

theorem idx_5 : ∀ (t : Fin cfg0.N) (a : Fin 2), (cfg0.win 5).index t a = 0 :=
  (by decide +kernel : ∀ (t : Fin grid0.N) (a : Fin 2), win0_5.index t a = 0)

theorem iblk_5 (t : Fin cfg0.N) : iblk m c 5 t = m ((c : Thread nD τ).loc main_arg7) := by
  funext y
  refine congrArg (m ((c : Thread nD τ).loc main_arg7)) (funext fun a => Fin.ext ?_)
  blk_simp
  rw [idx_5 t a]; omega

theorem idx_6 : ∀ (t : Fin cfg0.N) (a : Fin 2), (cfg0.win 6).index t a = 0 :=
  (by decide +kernel : ∀ (t : Fin grid0.N) (a : Fin 2), win0_6.index t a = 0)

theorem iblk_6 (t : Fin cfg0.N) : iblk m c 6 t = m ((c : Thread nD τ).loc main_arg9) := by
  funext y
  refine congrArg (m ((c : Thread nD τ).loc main_arg9)) (funext fun a => Fin.ext ?_)
  blk_simp
  rw [idx_6 t a]; omega

/-! ## The result of a run -/

/-- The block every point writes, over the arguments. -/
theorem out_eq (t : Fin cfg0.N) : (outsAt0 m c t.val t.isLt).1 = blockOf (grid0.coords t) (depthIdx (m ((c : Thread nD τ).loc main_arg1)))
    (verbIdx (m ((c : Thread nD τ).loc main_arg1))) (conjIdx (m ((c : Thread nD τ).loc main_arg1))) (m ((c : Thread nD τ).loc main_arg2))
    (table (m ((c : Thread nD τ).loc main_arg4)) (m ((c : Thread nD τ).loc main_arg5)) (m ((c : Thread nD τ).loc main_arg6))
      (m ((c : Thread nD τ).loc main_arg7)) (m ((c : Thread nD τ).loc main_arg9))) := by
  have hd : ∀ u : Fin cfg0.N, (outsAt0 m c u.val u.isLt).2.2.1 = depthIdx (m ((c : Thread nD τ).loc main_arg1)) := fun u =>
    funext fun j => Pipeline.eq_of_write_hold_apply (fun n hn => (outsAt0 m c n hn).2.2.1) 16
      (fun _ => depthIdx (m ((c : Thread nD τ).loc main_arg1)))
      (fun t h i => by rw [kept_depth m c t h, iblk_0]) (fun t h i => by rw [still_depth m c t h]) u j
  have hv : ∀ u : Fin cfg0.N, (outsAt0 m c u.val u.isLt).2.2.2.1 = verbIdx (m ((c : Thread nD τ).loc main_arg1)) := fun u =>
    funext fun j => Pipeline.eq_of_write_hold_apply (fun n hn => (outsAt0 m c n hn).2.2.2.1) 16
      (fun _ => verbIdx (m ((c : Thread nD τ).loc main_arg1)))
      (fun t h i => by rw [kept_verb m c t h, iblk_0]) (fun t h i => by rw [still_verb m c t h]) u j
  have hn : ∀ u : Fin cfg0.N, (outsAt0 m c u.val u.isLt).2.2.2.2 = conjIdx (m ((c : Thread nD τ).loc main_arg1)) := fun u =>
    funext fun j => Pipeline.eq_of_write_hold_apply (fun n hn => (outsAt0 m c n hn).2.2.2.2) 16
      (fun _ => conjIdx (m ((c : Thread nD τ).loc main_arg1)))
      (fun t h i => by rw [kept_conj m c t h, iblk_0]) (fun t h i => by rw [still_conj m c t h]) u j
  have ht : ∀ u : Fin cfg0.N, (outsAt0 m c u.val u.isLt).2.1 = table (m ((c : Thread nD τ).loc main_arg4)) (m ((c : Thread nD τ).loc main_arg5))
      (m ((c : Thread nD τ).loc main_arg6)) (m ((c : Thread nD τ).loc main_arg7)) (m ((c : Thread nD τ).loc main_arg9)) := fun u =>
    funext fun j => Pipeline.eq_of_write_hold_apply (fun n hn => (outsAt0 m c n hn).2.1) 16
      (fun _ => table (m ((c : Thread nD τ).loc main_arg4)) (m ((c : Thread nD τ).loc main_arg5))
        (m ((c : Thread nD τ).loc main_arg6)) (m ((c : Thread nD τ).loc main_arg7)) (m ((c : Thread nD τ).loc main_arg9)))
      (fun t h i => by rw [kept_table m c t h, iblk_2, iblk_3, iblk_4, iblk_5, iblk_6]) (fun t h i => by rw [still_table m c t h]) u j
  by_cases h : t.val % 16 = 0
  · rw [out_first m c t h, hd, hv, hn, ht, iblk_1]
  · have hp : t.val - 1 < cfg0.N := Nat.lt_of_le_of_lt (Nat.sub_le _ _) t.isLt
    rw [out_later m c t h, hd ⟨t.val - 1, hp⟩, hv ⟨t.val - 1, hp⟩, hn ⟨t.val - 1, hp⟩, ht ⟨t.val - 1, hp⟩, iblk_1]

/-- The grid point whose block holds row `s` of sentence `b`. -/
def pointOf (b : Fin 4) (s : Fin 2048) : grid0.Coords
  | ⟨0, _⟩ => b
  | ⟨1, _⟩ => ⟨s.val / 512, by have := s.isLt; show s.val / 512 < 4; omega⟩

/-- The whole result over the arguments. -/
def kernelOut (T : Vec Ideal S4x2048 .i32) (L : Vec Ideal S4 .i32) (D : Vec Ideal S8x192 .f32) (V : Vec Ideal S33x192 .f32)
    (C : Vec Ideal S8x192 .f32) (R : Vec Ideal S1x192 .f32) (W : Vec Ideal S768x768 .f32) : FVec Ideal S4x2048x768 .f32 := fun y =>
  blockOf (pointOf (y 0) (y 1)) (depthIdx T) (verbIdx T) (conjIdx T) L (table D V C R W)
    (ix3 (0 : Fin 1) (⟨(y 1).val % 512, Nat.mod_lt _ (by decide)⟩ : Fin 512) (y 2 : Fin 768))

theorem idx_7 : ∀ t : Fin cfg0.N, (cfg0.win 7).index t 0 = (grid0.coords t 0).val ∧ (cfg0.win 7).index t 1 = (grid0.coords t 1).val
    ∧ (cfg0.win 7).index t 2 = 0 :=
  (by decide +kernel : ∀ t : Fin grid0.N, win0_7.index t 0 = (grid0.coords t 0).val ∧ win0_7.index t 1 = (grid0.coords t 1).val
    ∧ win0_7.index t 2 = 0)

/-- What a run leaves in the result. -/
theorem result_eq : (dats m 0 c).arrAt 7 cfg0.N = kernelOut (m ((c : Thread nD τ).loc main_arg1)) (m ((c : Thread nD τ).loc main_arg2))
    (m ((c : Thread nD τ).loc main_arg4)) (m ((c : Thread nD τ).loc main_arg5)) (m ((c : Thread nD τ).loc main_arg6))
    (m ((c : Thread nD τ).loc main_arg7)) (m ((c : Thread nD τ).loc main_arg9)) := by
  refine (dats m 0 c).arrAt_eq_of_covers 7 _ (by decide +kernel) fun t hf y => ?_
  blk_simp
  rw [after0_7, out_eq]
  have e0 : (((win0_7.blk t).view.emb y) 0 : ℕ) = (cfg0.win 7).index t 0 * 1 + (y 0).val := by blk_simp
  have e1 : (((win0_7.blk t).view.emb y) 1 : ℕ) = (cfg0.win 7).index t 1 * 512 + (y 1).val := by blk_simp
  have e2 : (((win0_7.blk t).view.emb y) 2 : ℕ) = (cfg0.win 7).index t 2 * 768 + (y 2).val := by blk_simp
  obtain ⟨f0, f1, f2⟩ := idx_7 t
  have y0 : (y 0).val < 1 := (y 0).isLt
  have y1 : (y 1).val < 512 := (y 1).isLt
  generalize (win0_7.blk t).view.emb y = z at e0 e1 e2 ⊢
  unfold kernelOut
  have hp : pointOf (z 0) (z 1) = grid0.coords t := by
    funext a
    refine Fin.ext ?_
    match a with
    | ⟨0, _⟩ => show (z 0).val = (grid0.coords t 0).val; omega
    | ⟨1, _⟩ => show (z 1).val / 512 = (grid0.coords t 1).val; omega
  have hy : (ix3 (0 : Fin 1) (⟨(z 1).val % 512, Nat.mod_lt _ (by decide)⟩ : Fin 512) (z 2 : Fin 768) : S1x512x768.Idx) = y := by
    funext a
    refine Fin.ext ?_
    match a with
    | ⟨0, _⟩ => show 0 = (y 0).val; omega
    | ⟨1, _⟩ => show (z 1).val % 512 = (y 1).val; omega
    | ⟨2, _⟩ => show (z 2).val = (y 2).val; omega
  rw [hp, hy]

end Cert.Proof

end
-- ==== Proof.Gather.lean ====
/- The reference's gathers read at an index: a row of a table by a word's index, and an entry of a row by a word's index. -/
module

public import proofs.«01_k».proof.Proof.Gen.ReferenceIdeal.Run
public import Idealize.ShloMosaic.Lib.Pointwise
public import Idealize.ShloMosaic.Lib.Pointwise.IndexVar

@[expose] public section

set_option maxRecDepth 16384

noncomputable section

namespace Cert.Proof

open Idealize.ShloMosaic Cert.ReferenceIdeal Cert.ReferenceIdeal.Value

/-- A row of a table of `N` rows: the row the word's index names, read signed and clamped to the table. -/
theorem take_row {α : Type} {N : ℕ} (hN : 0 < N) (d : GatherDims (⟨2, ![N, 192]⟩ : Shape) S4x2048x1 S4x2048x192) (hoff : d.offsetDims = [2])
    (hcoll : d.collapsedSliceDims = [0]) (hob : d.operandBatchingDims = []) (hsim : d.startIndexMap = [0]) (hivd : d.indexVectorDim = 2)
    (x : (⟨2, ![N, 192]⟩ : Shape).Idx → α) (idx : IVec S4x2048x1 32) (b : Fin 4) (s : Fin 2048) (n : Fin 192) :
    Host.gather d x idx (ix3 b s n) = x (ix2 ⟨min (idx (ix3 b s 0)).toInt.toNat (N - 1), by omega⟩ n) := by
  have hbN : ∀ a, a ∉ d.operandBatchingDims := fun a => by rw [hob]; exact List.not_mem_nil
  have hbd : d.batchDims = [0, 1] := by
    show Shape.kept _ d.offsetDims = _
    rw [hoff]
    decide
  have hsk : d.siKept = [0, 1] := by
    show (List.finRange 3).filter (fun a => a.val ≠ d.indexVectorDim) = _
    rw [hivd]
    decide
  have e0 : ∀ X : Fin 3, X = 0 → (ix3 b s n X).val = b.val := fun X h => by subst h; rfl
  have e1 : ∀ X : Fin 3, X = 1 → (ix3 b s n X).val = s.val := fun X h => by subst h; rfl
  have e2 : ∀ X : Fin 3, X = 2 → (ix3 b s n X).val = n.val := fun X h => by subst h; rfl
  unfold Host.gather
  refine congrArg x (funext fun a => Fin.ext ?_)
  match a with
  | ⟨0, _⟩ =>
    have hk : (0 : Fin 2) ∉ d.sKept := fun h => ((d.mem_sKept 0).1 h).1 (by rw [hcoll]; exact List.mem_singleton.2 rfl)
    have hm : (0 : Fin 2) ∈ d.startIndexMap := by rw [hsim]; exact List.mem_singleton.2 rfl
    have hsl : d.sliceSizes 0 = 1 := d.slice_collapsed 0 (by rw [hcoll]; exact List.mem_singleton.2 rfl)
    show d.start (ix3 b s n) idx 0 + d.batchCoord (ix3 b s n) 0 + d.offCoord (ix3 b s n) 0 = _
    rw [d.batchCoord_eq_zero _ _ (hbN 0), d.offCoord_eq_zero _ _ hk]
    simp only [Nat.add_zero]
    unfold GatherDims.start
    rw [dif_pos hm]
    have hsi : d.siIdx (ix3 b s n) ⟨d.startIndexMap.idxOf 0, List.idxOf_lt_length_iff.2 hm⟩ = ix3 b s (0 : Fin 1) := by
      funext b'
      apply Fin.ext
      match b' with
      | ⟨0, _⟩ =>
        unfold GatherDims.siIdx
        rw [dif_neg (by rw [hivd]; exact (by decide : ¬ (0 : ℕ) = 2))]
        unfold GatherDims.siCoord
        simp only [Fin.val_cast]
        exact e0 _ (by simp only [hbd, hsk]; rfl)
      | ⟨1, _⟩ =>
        unfold GatherDims.siIdx
        rw [dif_neg (by rw [hivd]; exact (by decide : ¬ (1 : ℕ) = 2))]
        unfold GatherDims.siCoord
        simp only [Fin.val_cast]
        exact e1 _ (by simp only [hbd, hsk]; rfl)
      | ⟨2, _⟩ =>
        unfold GatherDims.siIdx
        rw [dif_pos (by rw [hivd])]
        show List.idxOf (0 : Fin 2) d.startIndexMap = 0
        rw [hsim]; simp
    rw [hsi, hsl]
    rfl
  | ⟨1, _⟩ =>
    have h1 : (1 : Fin 2) ∉ ([0] : List (Fin 2)) := by decide
    have hk : (1 : Fin 2) ∈ d.sKept := (d.mem_sKept 1).2 ⟨by rw [hcoll]; exact h1, hbN 1⟩
    have hm : (1 : Fin 2) ∉ d.startIndexMap := by rw [hsim]; exact h1
    have hof : ∀ k ∈ d.offsetDims, k = (2 : Fin 3) := fun k hk => by rw [hoff] at hk; exact List.mem_singleton.1 hk
    show d.start (ix3 b s n) idx 1 + d.batchCoord (ix3 b s n) 1 + d.offCoord (ix3 b s n) 1 = n.val
    rw [d.batchCoord_eq_zero _ _ (hbN 1), Nat.add_zero]
    unfold GatherDims.start GatherDims.offCoord
    rw [dif_neg hm, dif_pos hk, Nat.zero_add]
    exact e2 _ (hof _ (List.getElem_mem _))

/-- An entry of the row of distances of a word: the one its index names, read signed and clamped to the row. -/
theorem take_along {α : Type} (x : S4x2048x2048.Idx → α) (idx : IVec S4x2048x1x1 32) (b : Fin 4) (s : Fin 2048) :
    Host.gather gather_S4x2048x2048_S4x2048x1x1_S4x2048x1_n_2_01_01_2_3_111 x idx (ix3 b s 0)
      = x (ix3 b s ⟨min (idx (ix4 b s 0 0)).toInt.toNat 2047, by omega⟩) := by
  have hgen : ∀ d : GatherDims S4x2048x2048 S4x2048x1x1 S4x2048x1, d.offsetDims = [] → d.collapsedSliceDims = [2] → d.operandBatchingDims = [0, 1] →
      d.startIndicesBatchingDims = [0, 1] → d.startIndexMap = [2] → d.indexVectorDim = 3 →
      Host.gather d x idx (ix3 b s 0) = x (ix3 b s ⟨min (idx (ix4 b s 0 0)).toInt.toNat 2047, by omega⟩) := by
    intro d hoff hcoll hob hsb hsim hivd
    have hbd : d.batchDims = [0, 1, 2] := by
      show Shape.kept _ d.offsetDims = _
      rw [hoff]
      decide
    have hsk : d.siKept = [0, 1, 2] := by
      show (List.finRange 4).filter (fun a => a.val ≠ d.indexVectorDim) = _
      rw [hivd]
      decide
    have e0 : ∀ X : Fin 3, X = 0 → (ix3 b s (0 : Fin 1) X).val = b.val := fun X h => by subst h; rfl
    have e1 : ∀ X : Fin 3, X = 1 → (ix3 b s (0 : Fin 1) X).val = s.val := fun X h => by subst h; rfl
    have e2 : ∀ X : Fin 3, X = 2 → (ix3 b s (0 : Fin 1) X).val = 0 := fun X h => by subst h; rfl
    have hkN : ∀ a : Fin 3, a ∉ d.sKept := fun a h => by
      have h' := (d.mem_sKept a).1 h
      rw [hcoll, hob] at h'
      exact (by decide : ∀ a : Fin 3, a ∉ [(2 : Fin 3)] ∧ a ∉ [(0 : Fin 3), 1] → False) a h'
    unfold Host.gather
    refine congrArg x (funext fun a => Fin.ext ?_)
    match a with
    | ⟨0, _⟩ =>
      have hm : (0 : Fin 3) ∈ d.operandBatchingDims := by rw [hob]; decide
      show d.start (ix3 b s 0) idx 0 + d.batchCoord (ix3 b s 0) 0 + d.offCoord (ix3 b s 0) 0 = b.val
      rw [d.start_batching _ _ _ hm, d.offCoord_eq_zero _ _ (hkN 0), Nat.zero_add, Nat.add_zero]
      unfold GatherDims.batchCoord GatherDims.siCoord
      rw [dif_pos hm]
      simp only [Fin.val_cast]
      exact e0 _ (by simp only [hbd, hsk, hob, hsb]; rfl)
    | ⟨1, _⟩ =>
      have hm : (1 : Fin 3) ∈ d.operandBatchingDims := by rw [hob]; decide
      show d.start (ix3 b s 0) idx 1 + d.batchCoord (ix3 b s 0) 1 + d.offCoord (ix3 b s 0) 1 = s.val
      rw [d.start_batching _ _ _ hm, d.offCoord_eq_zero _ _ (hkN 1), Nat.zero_add, Nat.add_zero]
      unfold GatherDims.batchCoord GatherDims.siCoord
      rw [dif_pos hm]
      simp only [Fin.val_cast]
      exact e1 _ (by simp only [hbd, hsk, hob, hsb]; rfl)
    | ⟨2, _⟩ =>
      have hm : (2 : Fin 3) ∈ d.startIndexMap := by rw [hsim]; exact List.mem_singleton.2 rfl
      have hb : (2 : Fin 3) ∉ d.operandBatchingDims := by rw [hob]; decide
      have hsl : d.sliceSizes 2 = 1 := d.slice_collapsed 2 (by rw [hcoll]; exact List.mem_singleton.2 rfl)
      show d.start (ix3 b s 0) idx 2 + d.batchCoord (ix3 b s 0) 2 + d.offCoord (ix3 b s 0) 2 = _
      rw [d.batchCoord_eq_zero _ _ hb, d.offCoord_eq_zero _ _ (hkN 2), Nat.add_zero]
      unfold GatherDims.start
      rw [dif_pos hm]
      have hsi : d.siIdx (ix3 b s 0) ⟨d.startIndexMap.idxOf 2, List.idxOf_lt_length_iff.2 hm⟩ = ix4 b s (0 : Fin 1) (0 : Fin 1) := by
        funext b'
        apply Fin.ext
        match b' with
        | ⟨0, _⟩ =>
          unfold GatherDims.siIdx
          rw [dif_neg (by rw [hivd]; exact (by decide : ¬ (0 : ℕ) = 3))]
          unfold GatherDims.siCoord
          simp only [Fin.val_cast]
          exact e0 _ (by simp only [hbd, hsk]; rfl)
        | ⟨1, _⟩ =>
          unfold GatherDims.siIdx
          rw [dif_neg (by rw [hivd]; exact (by decide : ¬ (1 : ℕ) = 3))]
          unfold GatherDims.siCoord
          simp only [Fin.val_cast]
          exact e1 _ (by simp only [hbd, hsk]; rfl)
        | ⟨2, _⟩ =>
          unfold GatherDims.siIdx
          rw [dif_neg (by rw [hivd]; exact (by decide : ¬ (2 : ℕ) = 3))]
          unfold GatherDims.siCoord
          simp only [Fin.val_cast]
          exact e2 _ (by simp only [hbd, hsk]; rfl)
        | ⟨3, _⟩ =>
          unfold GatherDims.siIdx
          rw [dif_pos (by rw [hivd])]
          show List.idxOf (2 : Fin 3) d.startIndexMap = 0
          rw [hsim]; simp
      rw [hsi, hsl]
      rfl
  exact hgen _ rfl rfl rfl rfl rfl rfl

end Cert.Proof

end
-- ==== Proof.Spec.lean ====
/- What the index arrays mean, free of any program: the number of marked places up to a place, clamped to the table; and the signed distance
   to the nearest marked place, the leftmost of two equally near, clamped and shifted to the table. -/
module

public import Idealize.ShloMosaic.Lib.Pointwise

@[expose] public section

noncomputable section

namespace Cert.Proof

open Idealize.ShloMosaic

open Classical in
/-- The row of a counting table: how many marked places there are up to `i`, at most 7. -/
def rankRow (P : Fin 2048 → Prop) (i : Fin 2048) : ℕ := min 7 (Finset.univ.filter fun j => j ≤ i ∧ P j).card

theorem rankRow_lt (P : Fin 2048 → Prop) (i : Fin 2048) : rankRow P i < 8 := by
  unfold rankRow; omega

/-- `d` is the signed distance from the nearest marked place to `i`; of two equally near the leftmost counts. -/
def Near (V : Fin 2048 → Prop) (i : Fin 2048) (d : ℤ) : Prop :=
  ∃ j : Fin 2048, V j ∧ d = (i.val : ℤ) - j.val ∧
    ∀ k : Fin 2048, V k → |(i.val : ℤ) - j.val| < |(i.val : ℤ) - k.val| ∨ (|(i.val : ℤ) - j.val| = |(i.val : ℤ) - k.val| ∧ j.val ≤ k.val)

/-- There is at most one such distance. -/
theorem Near.unique {V : Fin 2048 → Prop} {i : Fin 2048} {d d' : ℤ} (h : Near V i d) (h' : Near V i d') : d = d' := by
  obtain ⟨j, hj, rfl, hmin⟩ := h
  obtain ⟨j', hj', rfl, hmin'⟩ := h'
  have h1 := hmin j' hj'
  have h2 := hmin' j hj
  omega

open Classical in
/-- The signed distance from the nearest marked place, 0 in a row with none. -/
def nearDist (V : Fin 2048 → Prop) (i : Fin 2048) : ℤ := if h : ∃ d, Near V i d then h.choose else 0

theorem nearDist_eq {V : Fin 2048 → Prop} {i : Fin 2048} {d : ℤ} (h : Near V i d) : nearDist V i = d := by
  have hx : ∃ d, Near V i d := ⟨d, h⟩
  unfold nearDist
  rw [dif_pos hx]
  exact hx.choose_spec.unique h

theorem nearDist_none {V : Fin 2048 → Prop} {i : Fin 2048} (h : ¬ ∃ j, V j) : nearDist V i = 0 := by
  unfold nearDist
  rw [dif_neg]
  rintro ⟨d, j, hj, -⟩
  exact h ⟨j, hj⟩

/-- The row of the distance table. -/
def nearRow (V : Fin 2048 → Prop) (i : Fin 2048) : ℕ := (max (-16) (min 16 (nearDist V i)) + 16).toNat

theorem nearRow_lt (V : Fin 2048 → Prop) (i : Fin 2048) : nearRow V i < 33 := by
  unfold nearRow; omega

/-- The nearest marked place from the last one up to `i` and the first one from `i` on. -/
theorem near_of_sides {V : Fin 2048 → Prop} {i : Fin 2048} (hV : ∃ j, V j) {P N : ℤ}
    (hPall : ∀ j, j ≤ i → V j → (j.val : ℤ) ≤ P) (hP : (∃ j, j ≤ i ∧ V j ∧ P = j.val) ∨ P = -1048576)
    (hNall : ∀ j, i ≤ j → V j → N ≤ (j.val : ℤ)) (hN : (∃ j, i ≤ j ∧ V j ∧ N = j.val) ∨ N = 1048576) :
    Near V i (if i.val - P ≤ N - i.val then i.val - P else -(N - i.val)) := by
  have hi := i.isLt
  obtain ⟨j0, hj0⟩ := hV
  have hb := j0.isLt
  have key : ∀ k : Fin 2048, V k → (k.val : ℤ) ≤ P ∨ N ≤ (k.val : ℤ) := fun k hk => by
    rcases le_total k i with h | h
    · exact .inl (hPall k h hk)
    · exact .inr (hNall k h hk)
  split_ifs with h
  · obtain ⟨j, hji, hj, rfl⟩ : ∃ j, j ≤ i ∧ V j ∧ P = j.val := by
      rcases hP with hP | hP
      · exact hP
      · rcases key j0 hj0 with h1 | h1 <;> omega
    refine ⟨j, hj, rfl, fun k hk => ?_⟩
    have hji' : j.val ≤ i.val := hji
    rcases le_total k i with h1 | h1
    · have h2 := hPall k h1 hk
      have h1' : k.val ≤ i.val := h1
      simp only [abs_eq_max_neg]
      omega
    · have h2 := hNall k h1 hk
      have h1' : i.val ≤ k.val := h1
      simp only [abs_eq_max_neg]
      omega
  · obtain ⟨j, hji, hj, rfl⟩ : ∃ j, i ≤ j ∧ V j ∧ N = j.val := by
      rcases hN with hN | hN
      · exact hN
      · rcases hP with ⟨j, hj, hj', rfl⟩ | hP
        · have : j.val ≤ i.val := hj
          omega
        · rcases key j0 hj0 with h1 | h1 <;> omega
    refine ⟨j, hj, by omega, fun k hk => ?_⟩
    have hji' : i.val ≤ j.val := hji
    rcases le_total k i with h1 | h1
    · have h2 := hPall k h1 hk
      have h1' : k.val ≤ i.val := h1
      simp only [abs_eq_max_neg]
      omega
    · have h2 := hNall k h1 hk
      have h1' : i.val ≤ k.val := h1
      simp only [abs_eq_max_neg]
      omega

/-! ## Words -/

theorem toInt_maxsi (x y : BitVec 32) : (IntOp.maxsi x y).toInt = max x.toInt y.toInt := by
  unfold IntOp.maxsi
  simp only [BitVec.slt]
  split_ifs with h
  · rw [max_eq_left (le_of_lt (of_decide_eq_true h))]
  · rw [max_eq_right (by simpa using h)]

theorem toInt_minsi (x y : BitVec 32) : (IntOp.minsi x y).toInt = min x.toInt y.toInt := by
  unfold IntOp.minsi
  simp only [BitVec.slt]
  split_ifs with h
  · rw [min_eq_left (by simpa using le_of_lt (of_decide_eq_true h))]
  · rw [min_eq_right (by simpa using h)]

theorem toInt_subi (x y : BitVec 32) (h : -2147483648 ≤ x.toInt - y.toInt) (h' : x.toInt - y.toInt < 2147483648) :
    (IntOp.subi x y).toInt = x.toInt - y.toInt := by
  show (x - y).toInt = _
  rw [BitVec.toInt_sub]
  exact Int.bmod_eq_of_le (by norm_num; omega) (by norm_num; omega)

theorem toInt_addi (x y : BitVec 32) (h : -2147483648 ≤ x.toInt + y.toInt) (h' : x.toInt + y.toInt < 2147483648) :
    (IntOp.addi x y).toInt = x.toInt + y.toInt := by
  show (x + y).toInt = _
  rw [BitVec.toInt_add]
  exact Int.bmod_eq_of_le (by norm_num; omega) (by norm_num; omega)

theorem toInt_small (k : ℕ) (hk : k < 2147483648) : (BitVec.ofNat 32 k).toInt = k := by
  rw [BitVec.toInt_eq_toNat_cond, BitVec.toNat_ofNat]
  have : k % 2 ^ 32 = k := Nat.mod_eq_of_lt (by omega)
  rw [this, if_pos (by omega)]

theorem sle_toInt (x y : BitVec 32) : IntOp.cmpi .sle x y = BitVec.ofBool (decide (x.toInt ≤ y.toInt)) := rfl

theorem eq_ofBool {p q : Prop} [Decidable p] [Decidable q] (h : p ↔ q) : BitVec.ofBool (decide p) = BitVec.ofBool (decide q) := by
  rw [decide_eq_decide.mpr h]

open Classical in
/-- A fold of additions of marks counts them. -/
theorem fold_marks {ι : Type} (s : Finset ι) (p : ι → Prop) (f : ι → BitVec 32) (hf : ∀ j, f j = if p j then 1#32 else 0#32) :
    s.fold IntOp.addi 0#32 f = BitVec.ofNat 32 (s.filter p).card := by
  induction s using Finset.induction_on with
  | empty => simp
  | insert a s ha ih =>
    rw [Finset.fold_insert ha, ih, hf, Finset.filter_insert]
    split_ifs with h
    · rw [Finset.card_insert_of_notMem (by simp [ha])]
      show 1#32 + BitVec.ofNat 32 _ = _
      rw [Nat.add_comm, BitVec.ofNat_add]
    · show 0#32 + BitVec.ofNat 32 _ = _
      simp

/-- A count clamped to [0, 7]. -/
theorem clamp_count (n : ℕ) (hn : n ≤ 2048) : IntOp.minsi 7#32 (IntOp.maxsi 0#32 (BitVec.ofNat 32 n)) = BitVec.ofNat 32 (min 7 n) := by
  refine BitVec.eq_of_toInt_eq ?_
  have h7 : (7#32).toInt = 7 := by decide
  have h0 : (0#32).toInt = 0 := by decide
  rw [toInt_small (min 7 n) (by omega), toInt_minsi, toInt_maxsi, toInt_small n (by omega), h7, h0]
  omega

/-- A distance clamped to [-16, 16] and shifted by 16. -/
theorem clamp_dist (x : BitVec 32) : IntOp.addi (IntOp.minsi 16#32 (IntOp.maxsi 4294967280#32 x)) 16#32 =
    BitVec.ofNat 32 (max (-16) (min 16 x.toInt) + 16).toNat := by
  refine BitVec.eq_of_toInt_eq ?_
  have h16 : (16#32).toInt = 16 := by decide
  have hm : (4294967280#32).toInt = -16 := by decide
  rw [toInt_small _ (by omega), toInt_addi _ _ (by rw [toInt_minsi, toInt_maxsi, h16, hm]; omega) (by rw [toInt_minsi, toInt_maxsi, h16, hm]; omega),
    toInt_minsi, toInt_maxsi, h16, hm]
  omega

end Cert.Proof

end
-- ==== Proof.Index.lean ====
/- The kernel's three index arrays at a place: the number of marked words so far, clamped; the distance to the nearest verb. -/
module

public import proofs.«01_k».proof.Proof.Outs
public import proofs.«01_k».proof.Proof.Spec
public import Idealize.ShloMosaic.Lib.Tactic.WordOmega

@[expose] public section

set_option maxRecDepth 16384

noncomputable section

namespace Cert.Proof

open Idealize.ShloMosaic Cert.KernelIdeal Cert.KernelIdeal.Gen

/-- The kernel's depth index: the running sum of the marks, clamped. -/
theorem depthIdx_eq (T : Vec Ideal S4x2048 .i32) (j : S4x2048.Idx) :
    depthIdx T j = IntOp.minsi 7#32 (IntOp.maxsi 0#32 (doubleRight IntOp.addi 0#32 (k0_pay3 (F := Ideal) T) j)) := by
  have h : depthIdx T = shapeCast S4x2048 (fun j => IntOp.minsi 7#32 (IntOp.maxsi 0#32 (doubleRight IntOp.addi 0#32 (k0_pay3 (F := Ideal) T) j)))
      Facts₀.shapeCasts_S4x2048_S4x2048 := by
    sl_kernel_rfl
  rw [h, shapeCast_self]

theorem conjIdx_eq (T : Vec Ideal S4x2048 .i32) (j : S4x2048.Idx) :
    conjIdx T j = IntOp.minsi 7#32 (IntOp.maxsi 0#32 (doubleRight IntOp.addi 0#32 (k0_pay10 (F := Ideal) T) j)) := by
  have h : conjIdx T = shapeCast S4x2048 (fun j => IntOp.minsi 7#32 (IntOp.maxsi 0#32 (doubleRight IntOp.addi 0#32 (k0_pay10 (F := Ideal) T) j)))
      Facts₀.shapeCasts_S4x2048_S4x2048 := by
    sl_kernel_rfl
  rw [h, shapeCast_self]

/-- The positions of verbs, and `e` elsewhere. -/
def verbPlaces (T : Vec Ideal S4x2048 .i32) (e : BitVec 32) : IVec S4x2048 32 :=
  select (k0_pay14 (F := Ideal) T) places (broadcast S4x2048 e)

theorem leftDist_eq (T : Vec Ideal S4x2048 .i32) (j : S4x2048.Idx) :
    leftDist T j = IntOp.subi (places j) (doubleRight IntOp.maxsi 4293918720#32 (verbPlaces T 4293918720#32) j) := by
  sl_kernel_rfl

theorem rightDist_eq (T : Vec Ideal S4x2048 .i32) (j : S4x2048.Idx) :
    rightDist T j = IntOp.subi (doubleLeft IntOp.minsi 1048576#32 (verbPlaces T 1048576#32) j) (places j) := by
  sl_kernel_rfl

/-- Whether a row has a verb, at every place of the row: the greatest of the verbs' marks is above zero. -/
def hasVerb (T : Vec Ideal S4x2048 .i32) : IVec S4x2048 1 :=
  broadcastTo S4x2048 (shapeCast S4x1 (shapeCast S4x1 (cmpf (F := Ideal) .ogt
    (multiReduction (F := Ideal) .maximumf [1] S4 (select (k0_pay14 (F := Ideal) T)
      (broadcast S4x2048 (Scalar.ofBits (F := Ideal) .f32 0x3F800000#32)) (broadcast S4x2048 (Scalar.ofBits (F := Ideal) .f32 0x00000000#32)))
      0xFF800000#32 Facts₀.reduces_S4x2048_S4 (.inl rfl) rfl)
    (broadcast S4 (Scalar.ofBits (F := Ideal) .f32 0x00000000#32))) Facts₀.shapeCasts_S4_S4x1) Facts₀.shapeCasts_S4x1_S4x1) Facts₀.broadcasts_S4x1_S4x2048

theorem verbIdx_eq (T : Vec Ideal S4x2048 .i32) (j : S4x2048.Idx) :
    verbIdx T j = IntOp.addi (IntOp.minsi 16#32 (IntOp.maxsi 4294967280#32 (Scalar.select (hasVerb T j)
      (Scalar.select (IntOp.cmpi .sle (leftDist T j) (rightDist T j)) (leftDist T j) (IntOp.subi 0#32 (rightDist T j))) 0#32))) 16#32 := by
  have h : verbIdx T = shapeCast S4x2048 (fun j => IntOp.addi (IntOp.minsi 16#32 (IntOp.maxsi 4294967280#32 (Scalar.select (hasVerb T j)
      (Scalar.select (IntOp.cmpi .sle (leftDist T j) (rightDist T j)) (leftDist T j) (IntOp.subi 0#32 (rightDist T j))) 0#32))) 16#32)
      Facts₀.shapeCasts_S4x2048_S4x2048 := by
    sl_kernel_rfl
  rw [h, shapeCast_self]

/-- Place `j` of sentence `b` carries tag `p`. -/
def Tagged (T : Vec Ideal S4x2048 .i32) (p : BitVec 32) (b : Fin 4) (j : Fin 2048) : Prop := T (ix2 b j) = p

/-- Place `j` of sentence `b` is a verb. -/
def Verb (T : Vec Ideal S4x2048 .i32) (b : Fin 4) (j : Fin 2048) : Prop := T (ix2 b j) = 10#32 ∨ T (ix2 b j) = 11#32

theorem eq_word (x y : BitVec 32) [Decidable (x = y)] : IntOp.cmpi .eq x y = BitVec.ofBool (decide (x = y)) := by
  show BitVec.ofBool (x == y) = _
  congr 1
  by_cases h : x = y <;> simp [h]

theorem mark_word (x y : BitVec 32) [Decidable (x = y)] : (IntOp.cmpi .eq x y).setWidth 32 = if x = y then 1#32 else 0#32 := by
  rw [eq_word]
  by_cases h : x = y <;> simp [h] <;> decide

open Classical in
theorem verb_mark (T : Vec Ideal S4x2048 .i32) (b : Fin 4) (j : Fin 2048) :
    k0_pay14 (F := Ideal) T (ix2 b j) = BitVec.ofBool (decide (Verb T b j)) := by
  show IntOp.ori (IntOp.cmpi .eq (T (ix2 b j)) 10#32) (IntOp.cmpi .eq (T (ix2 b j)) 11#32) = _
  rw [eq_word, eq_word]
  unfold Verb
  by_cases h : T (ix2 b j) = 10#32 <;> by_cases h' : T (ix2 b j) = 11#32 <;> simp [h, h'] <;> decide

theorem depthIdx_apply (T : Vec Ideal S4x2048 .i32) (b : Fin 4) (i : Fin 2048) :
    depthIdx T (ix2 b i) = BitVec.ofNat 32 (rankRow (Tagged T 15#32 b) i) := by
  classical
  rw [depthIdx_eq, doubleRight_apply IntOp.addi 0#32 (by decide) _ b (fun i => by show _ + 0#32 = _; simp) i,
    fold_marks _ (Tagged T 15#32 b) (fun j => k0_pay3 (F := Ideal) T (ix2 b j)) (fun j => @mark_word (T (ix2 b j)) 15#32 (Classical.propDecidable _))]
  rw [clamp_count _ ((Finset.card_le_univ _).trans_eq (Fintype.card_fin 2048)), Finset.filter_filter]
  unfold rankRow
  congr!

theorem conjIdx_apply (T : Vec Ideal S4x2048 .i32) (b : Fin 4) (i : Fin 2048) :
    conjIdx T (ix2 b i) = BitVec.ofNat 32 (rankRow (Tagged T 9#32 b) i) := by
  classical
  rw [conjIdx_eq, doubleRight_apply IntOp.addi 0#32 (by decide) _ b (fun i => by show _ + 0#32 = _; simp) i,
    fold_marks _ (Tagged T 9#32 b) (fun j => k0_pay10 (F := Ideal) T (ix2 b j)) (fun j => @mark_word (T (ix2 b j)) 9#32 (Classical.propDecidable _))]
  rw [clamp_count _ ((Finset.card_le_univ _).trans_eq (Fintype.card_fin 2048)), Finset.filter_filter]
  unfold rankRow
  congr!

open Classical in
theorem verbPlaces_toInt (T : Vec Ideal S4x2048 .i32) (e : BitVec 32) (b : Fin 4) (j : Fin 2048) :
    (verbPlaces T e (ix2 b j)).toInt = if Verb T b j then (j.val : ℤ) else e.toInt := by
  have hj := j.isLt
  show (Scalar.select (k0_pay14 (F := Ideal) T (ix2 b j)) (places (ix2 b j)) e).toInt = _
  rw [verb_mark, select_ofBool, places_apply]
  split_ifs
  · exact toInt_small _ (by omega)
  · rfl

theorem maxsi_fill (x e : BitVec 32) (h : e.toInt ≤ x.toInt) : IntOp.maxsi x e = x := by
  refine BitVec.eq_of_toInt_eq ?_
  rw [toInt_maxsi, max_eq_left h]

theorem minsi_fill (x e : BitVec 32) (h : x.toInt ≤ e.toInt) : IntOp.minsi x e = x := by
  refine BitVec.eq_of_toInt_eq ?_
  rw [toInt_minsi, min_eq_left h]

/-- The last verb up to a place. -/
theorem lastVerb (T : Vec Ideal S4x2048 .i32) (b : Fin 4) (i : Fin 2048) :
    (∀ j, j ≤ i → Verb T b j → (j.val : ℤ) ≤ (doubleRight IntOp.maxsi 4293918720#32 (verbPlaces T 4293918720#32) (ix2 b i)).toInt) ∧
    ((∃ j, j ≤ i ∧ Verb T b j ∧ (doubleRight IntOp.maxsi 4293918720#32 (verbPlaces T 4293918720#32) (ix2 b i)).toInt = j.val) ∨
      (doubleRight IntOp.maxsi 4293918720#32 (verbPlaces T 4293918720#32) (ix2 b i)).toInt = -1048576) := by
  classical
  have he : (4293918720#32).toInt = -1048576 := by decide
  have hle : ∀ j, (-1048576 : ℤ) ≤ (verbPlaces T 4293918720#32 (ix2 b j)).toInt := fun j => by
    rw [verbPlaces_toInt, he]; split_ifs <;> omega
  rw [doubleRight_apply IntOp.maxsi _ (by decide) _ b (fun j => maxsi_fill _ _ (by rw [he]; exact hle j)) i,
    ← Finset.fold_hom (op' := max) (m := BitVec.toInt) (fun x y => toInt_maxsi x y), he]
  constructor
  · intro j hj hv
    refine (Finset.le_fold_max _).mpr (.inr ⟨j, by simpa using hj, ?_⟩)
    rw [verbPlaces_toInt, if_pos hv]
  · have h1 := (Finset.le_fold_max (s := Finset.univ.filter fun j => j ≤ i) (b := (-1048576 : ℤ))
      (f := fun j => (verbPlaces T 4293918720#32 (ix2 b j)).toInt) _).mp le_rfl
    have h2 : (-1048576 : ℤ) ≤ (Finset.univ.filter fun j => j ≤ i).fold max (-1048576 : ℤ)
      (fun j => (verbPlaces T 4293918720#32 (ix2 b j)).toInt) := (Finset.le_fold_max _).mpr (.inl le_rfl)
    rcases h1 with h1 | ⟨j, hj, h1⟩
    · exact .inr (le_antisymm h1 h2)
    · have h3 : (verbPlaces T 4293918720#32 (ix2 b j)).toInt ≤ (Finset.univ.filter fun j => j ≤ i).fold max (-1048576 : ℤ)
        (fun j => (verbPlaces T 4293918720#32 (ix2 b j)).toInt) := (Finset.le_fold_max _).mpr (.inr ⟨j, hj, le_rfl⟩)
      have h4 := le_antisymm h1 h3
      rw [h4, verbPlaces_toInt, he]
      by_cases hv : Verb T b j
      · exact .inl ⟨j, by simpa using hj, hv, by rw [if_pos hv]⟩
      · exact .inr (by rw [if_neg hv])

/-- The first verb from a place on. -/
theorem firstVerb (T : Vec Ideal S4x2048 .i32) (b : Fin 4) (i : Fin 2048) :
    (∀ j, i ≤ j → Verb T b j → (doubleLeft IntOp.minsi 1048576#32 (verbPlaces T 1048576#32) (ix2 b i)).toInt ≤ (j.val : ℤ)) ∧
    ((∃ j, i ≤ j ∧ Verb T b j ∧ (doubleLeft IntOp.minsi 1048576#32 (verbPlaces T 1048576#32) (ix2 b i)).toInt = j.val) ∨
      (doubleLeft IntOp.minsi 1048576#32 (verbPlaces T 1048576#32) (ix2 b i)).toInt = 1048576) := by
  classical
  have he : (1048576#32).toInt = 1048576 := by decide
  have hle : ∀ j, (verbPlaces T 1048576#32 (ix2 b j)).toInt ≤ 1048576 := fun j => by
    have := j.isLt
    rw [verbPlaces_toInt, he]; split_ifs <;> omega
  rw [doubleLeft_apply IntOp.minsi _ (by decide) _ b (fun j => minsi_fill _ _ (by rw [he]; exact hle j)) i,
    ← Finset.fold_hom (op' := min) (m := BitVec.toInt) (fun x y => toInt_minsi x y), he]
  constructor
  · intro j hj hv
    refine (Finset.fold_min_le _).mpr (.inr ⟨j, by simpa using hj, ?_⟩)
    rw [verbPlaces_toInt, if_pos hv]
  · have h1 := (Finset.fold_min_le (s := Finset.univ.filter fun j => i ≤ j) (b := (1048576 : ℤ))
      (f := fun j => (verbPlaces T 1048576#32 (ix2 b j)).toInt) _).mp le_rfl
    have h2 : (Finset.univ.filter fun j => i ≤ j).fold min (1048576 : ℤ)
      (fun j => (verbPlaces T 1048576#32 (ix2 b j)).toInt) ≤ (1048576 : ℤ) := (Finset.fold_min_le _).mpr (.inl le_rfl)
    rcases h1 with h1 | ⟨j, hj, h1⟩
    · exact .inr (le_antisymm h2 h1)
    · have h3 : (Finset.univ.filter fun j => i ≤ j).fold min (1048576 : ℤ)
        (fun j => (verbPlaces T 1048576#32 (ix2 b j)).toInt) ≤ (verbPlaces T 1048576#32 (ix2 b j)).toInt := (Finset.fold_min_le _).mpr (.inr ⟨j, hj, le_rfl⟩)
      have h4 := le_antisymm h3 h1
      rw [h4, verbPlaces_toInt, he]
      by_cases hv : Verb T b j
      · exact .inl ⟨j, by simpa using hj, hv, by rw [if_pos hv]⟩
      · exact .inr (by rw [if_neg hv])

open Classical in
theorem hasVerb_apply (T : Vec Ideal S4x2048 .i32) (b : Fin 4) (i : Fin 2048) :
    hasVerb T (ix2 b i) = BitVec.ofBool (decide (∃ j, Verb T b j)) := by
  have hm : ∀ j, IntOp.ori (IntOp.cmpi CmpIPredicate.eq (T (ix2 b j)) 10#32) (IntOp.cmpi CmpIPredicate.eq (T (ix2 b j)) 11#32) =
    BitVec.ofBool (decide (Verb T b j)) := verb_mark T b
  unfold hasVerb k0_pay14
  pointwise
  simp only [hm, select_ofBool]
  refine eq_ofBool ?_
  rw [Finset.lt_fold_max]
  constructor
  · rintro (h | ⟨j, -, h⟩)
    · exfalso
      have hb : Ideal.ofBits .f32 0xFF800000#32 = ⊥ := by simp [Ideal.ofBits, Ideal.ieee]
      rw [hb] at h
      exact not_lt_bot h
    · refine ⟨j, ?_⟩
      by_contra hv
      rw [if_neg hv] at h
      exact lt_irrefl _ h
  · rintro ⟨j, hv⟩
    exact .inr ⟨j, Finset.mem_univ _, by rw [if_pos hv]; exact zero_lt_one⟩

theorem verbIdx_apply (T : Vec Ideal S4x2048 .i32) (b : Fin 4) (i : Fin 2048) :
    verbIdx T (ix2 b i) = BitVec.ofNat 32 (nearRow (Verb T b) i) := by
  classical
  have hi := i.isLt
  obtain ⟨hPall, hP⟩ := lastVerb T b i
  obtain ⟨hNall, hN⟩ := firstVerb T b i
  rw [verbIdx_eq, clamp_dist, hasVerb_apply, select_ofBool]
  unfold nearRow
  congr 4
  split_ifs with hV
  · have hn := near_of_sides hV hPall hP hNall hN
    rw [nearDist_eq hn, leftDist_eq, rightDist_eq, places_apply]
    generalize doubleRight IntOp.maxsi 4293918720#32 (verbPlaces T 4293918720#32) (ix2 b i) = x at hP ⊢
    generalize doubleLeft IntOp.minsi 1048576#32 (verbPlaces T 1048576#32) (ix2 b i) = y at hN ⊢
    have hx : -1048576 ≤ x.toInt ∧ x.toInt < 2048 := by
      rcases hP with ⟨j, -, -, h⟩ | h
      · have := j.isLt; omega
      · omega
    have hy : 0 ≤ y.toInt ∧ y.toInt ≤ 1048576 := by
      rcases hN with ⟨j, -, -, h⟩ | h
      · have := j.isLt; omega
      · omega
    have hiw : (BitVec.ofNat 32 i.val).toInt = i.val := toInt_small _ (by omega)
    have hl : (IntOp.subi (BitVec.ofNat 32 i.val) x).toInt = i.val - x.toInt := by
      rw [toInt_subi _ _ (by rw [hiw]; omega) (by rw [hiw]; omega), hiw]
    have hr : (IntOp.subi y (BitVec.ofNat 32 i.val)).toInt = y.toInt - i.val := by
      rw [toInt_subi _ _ (by rw [hiw]; omega) (by rw [hiw]; omega), hiw]
    have h0 : (0#32).toInt = 0 := by decide
    rw [sle_toInt, select_ofBool, hl, hr]
    split_ifs
    · rw [hl]
    · rw [toInt_subi _ _ (by rw [hr, h0]; omega) (by rw [hr, h0]; omega), hr, h0]; omega
  · rw [nearDist_none hV]; decide

end Cert.Proof

end
-- ==== Proof.Real.lean ====
/- The mathematics of one row over the reals: the linear layer over four embeddings, the exact gelu, the normalisation, and the folded form
   the kernel computes (everything scaled by the square root of two) equal to it. -/
module

public import proofs.«01_k».proof.KernelIdeal
public import Idealize.ShloMosaic.Lib.Pointwise
public import Idealize.ShloMosaic.Lib.Pointwise.IndexVar

@[expose] public section

set_option maxRecDepth 16384

noncomputable section

namespace Cert.Proof

open Idealize.ShloMosaic

/-- A finite sum of reals, read in the extended reals. -/
theorem coe_sum {ι : Type} (s : Finset ι) (f : ι → ℝ) : ((∑ x ∈ s, f x : ℝ) : EReal) = ∑ x ∈ s, (f x : EReal) := by
  classical
  induction s using Finset.induction_on with
  | empty => simp
  | insert a s h ih => rw [Finset.sum_insert h, Finset.sum_insert h, EReal.coe_add, ih]

theorem coe_max (x y : ℝ) : ((max x y : ℝ) : EReal) = max (x : EReal) (y : EReal) := EReal.coe_strictMono.monotone.map_max

theorem coe_min (x y : ℝ) : ((min x y : ℝ) : EReal) = min (x : EReal) (y : EReal) := EReal.coe_strictMono.monotone.map_min

/-- The error function. -/
def erfR (r : ℝ) : ℝ := 2 / Real.sqrt Real.pi * ∫ t in (0 : ℝ)..r, Real.exp (-(t ^ 2))

theorem erf_real (r : ℝ) : Ideal.erf (r : EReal) = (erfR r : EReal) := Ideal.erf_coe r

/-- The exact gelu. -/
def gelu (h : ℝ) : ℝ := h * (1 / 2) * (1 + erfR (h / Real.sqrt 2))

/-- The mean of a row. -/
def mean (g : Fin 768 → ℝ) : ℝ := (∑ x, g x) * 768⁻¹

/-- The variance of a row. -/
def spread (g : Fin 768 → ℝ) : ℝ := mean fun x => (g x - mean g) * (g x - mean g)

/-- A row normalised to mean zero and variance one, `e` added to the variance. -/
def normed (e : ℝ) (g : Fin 768 → ℝ) (n : Fin 768) : ℝ := (g n - mean g) / Real.sqrt (spread g + e)

theorem spread_nonneg (g : Fin 768 → ℝ) : 0 ≤ spread g :=
  mul_nonneg (Finset.sum_nonneg fun _ _ => mul_self_nonneg _) (by norm_num)

/-- The variance is the mean square less the squared mean. -/
theorem spread_eq (g : Fin 768 → ℝ) : spread g = (∑ x, g x * g x) * 768⁻¹ - mean g * mean g := by
  have h : ∀ x, (g x - mean g) * (g x - mean g) = g x * g x - 2 * mean g * g x + mean g * mean g := fun x => by ring
  unfold spread
  rw [show mean (fun x => (g x - mean g) * (g x - mean g)) = (∑ x, (g x - mean g) * (g x - mean g)) * 768⁻¹ from rfl]
  simp only [h, Finset.sum_add_distrib, Finset.sum_sub_distrib, ← Finset.mul_sum, Finset.sum_const, Finset.card_univ, Fintype.card_fin,
    nsmul_eq_mul]
  have hm : (∑ x, g x) = 768 * mean g := by unfold mean; ring
  rw [hm]
  push_cast
  ring

/-- Half the variance the kernel takes of a row scaled by the square root of two is the variance of the row. -/
theorem half_spread (g t : Fin 768 → ℝ) (ht : ∀ x, t x = Real.sqrt 2 * g x) :
    (1 / 2 : ℝ) * ((∑ x, t x * t x) * 768⁻¹ - (∑ x, t x) * 768⁻¹ * ((∑ x, t x) * 768⁻¹)) = spread g := by
  have h2 : Real.sqrt 2 * Real.sqrt 2 = 2 := Real.mul_self_sqrt (by norm_num)
  have hs : ∀ x, t x * t x = 2 * (g x * g x) := fun x => by rw [ht]; linear_combination (g x * g x) * h2
  have h1 : (∑ x, t x) = Real.sqrt 2 * ∑ x, g x := by rw [Finset.mul_sum]; exact Finset.sum_congr rfl fun x _ => ht x
  rw [spread_eq, Finset.sum_congr rfl fun x _ => hs x, ← Finset.mul_sum, h1]
  unfold mean
  linear_combination (-(1 / 2) * (∑ x, g x) * 768⁻¹ * ((∑ x, g x) * 768⁻¹)) * h2

/-- The kernel's normalisation of the scaled row is the normalisation of the row. -/
theorem normed_scaled (e : ℝ) (g t : Fin 768 → ℝ) (ht : ∀ x, t x = Real.sqrt 2 * g x) (n : Fin 768) :
    t n * ((Real.sqrt 2)⁻¹ * (Real.sqrt (spread g + e))⁻¹) + (0 - (∑ x, t x) * 768⁻¹ * ((Real.sqrt 2)⁻¹ * (Real.sqrt (spread g + e))⁻¹))
      = normed e g n := by
  have h0 : Real.sqrt 2 ≠ 0 := (Real.sqrt_pos.2 (by norm_num)).ne'
  have h1 : (∑ x, t x) = Real.sqrt 2 * ∑ x, g x := by rw [Finset.mul_sum]; exact Finset.sum_congr rfl fun x _ => ht x
  have hc : Real.sqrt 2 * (Real.sqrt 2)⁻¹ = 1 := mul_inv_cancel₀ h0
  rw [ht, h1]
  unfold normed mean
  rw [div_eq_mul_inv]
  linear_combination (g n - (∑ x, g x) * 768⁻¹) * (Real.sqrt (spread g + e))⁻¹ * hc

/-- What the kernel makes of a scaled entry of the linear layer is the scaled gelu of the entry. -/
theorem gelu_scaled (h : ℝ) :
    h * (Real.sqrt 2)⁻¹ * erfR (h * (Real.sqrt 2)⁻¹) + h * (Real.sqrt 2)⁻¹ = Real.sqrt 2 * gelu h := by
  have h0 : Real.sqrt 2 ≠ 0 := (Real.sqrt_pos.2 (by norm_num)).ne'
  have h2 : Real.sqrt 2 * Real.sqrt 2 = 2 := Real.mul_self_sqrt (by norm_num)
  have hi : (Real.sqrt 2)⁻¹ = Real.sqrt 2 * (1 / 2) := by
    rw [inv_eq_iff_eq_inv, eq_comm]
    refine inv_eq_of_mul_eq_one_left ?_
    linear_combination (1 / 2) * h2
  unfold gelu
  rw [div_eq_mul_inv h]
  linear_combination (h * (1 + erfR (h * (Real.sqrt 2)⁻¹))) * hi

/-- Row `p` of a table times a band of 192 rows of the matrix, starting at row `o`: one entry. -/
def band {N : ℕ} (E : Fin N → Fin 192 → ℝ) (W : Fin 768 → Fin 768 → ℝ) (p : Fin N) (o : ℕ) (ho : o + 192 ≤ 768) (n : Fin 768) : ℝ :=
  ∑ q : Fin 192, E p q * W ⟨o + q.val, by omega⟩ n

/-- The linear layer over the four embeddings of a word: depth row `p`, distance row `k`, conjunction row `r`, relative position `ρ`. -/
def linear (D : Fin 8 → Fin 192 → ℝ) (V : Fin 33 → Fin 192 → ℝ) (C : Fin 8 → Fin 192 → ℝ) (R : Fin 1 → Fin 192 → ℝ)
    (W : Fin 768 → Fin 768 → ℝ) (p : Fin 8) (k : Fin 33) (r : Fin 8) (ρ : ℝ) (n : Fin 768) : ℝ :=
  band D W p 0 (by norm_num) n + band V W k 192 (by norm_num) n + band C W r 384 (by norm_num) n + ρ * band R W 0 576 (by norm_num) n

/-- `1e-5` as the kernel and the reference spell it. -/
def tiny : ℝ := 10995116 / 1099511627776

theorem tiny_pos : 0 < tiny := by unfold tiny; norm_num

theorem ofBits_tiny : Ideal.ofBits .f32 0x3727C5AC#32 = (tiny : EReal) := by
  simp [Ideal.ofBits, Ideal.ieee, -EReal.coe_mul, tiny]; norm_num

theorem ofBits_half : Ideal.ofBits .f32 0x3F000000#32 = ((1 / 2 : ℝ) : EReal) := by
  simp [Ideal.ofBits, Ideal.ieee, -EReal.coe_mul]; norm_num

theorem named_inv_d : Named.named (F := Ideal) Cert.KernelIdeal.κ "inv_d" (φ := .f32) 984263339#32 = ((768⁻¹ : ℝ) : EReal) :=
  IdealRules.named_const.ideal_named_scalar _ _ _ _ rfl

theorem named_rsqrt2 : Named.named (F := Ideal) Cert.KernelIdeal.κ "rsqrt2" (φ := .f32) 1060439283#32 = (((Real.sqrt 2)⁻¹ : ℝ) : EReal) :=
  IdealRules.named_const.ideal_named_scalar _ _ _ _ rfl

theorem rsqrt_pos {r : ℝ} (h : 0 < r) : Ideal.rsqrt (r : EReal) = (((Real.sqrt r)⁻¹ : ℝ) : EReal) := by
  rw [Ideal.rsqrt_coe, if_neg (not_lt.2 h.le), if_neg h.ne']

theorem sqrt_pos' {r : ℝ} (h : 0 ≤ r) : Ideal.sqrt (r : EReal) = ((Real.sqrt r : ℝ) : EReal) := by
  rw [Ideal.sqrt_coe, if_neg (not_lt.2 h)]

theorem div_real (x : ℝ) {y : ℝ} (h : y ≠ 0) : Ideal.div (x : EReal) (y : EReal) = ((x / y : ℝ) : EReal) := by
  rw [Ideal.div_coe h, ← EReal.coe_mul, mul_one_div]

end Cert.Proof

end
-- ==== Proof.RefIdx.lean ====
/- The reference's two counting indices at a place: the number of marked words so far, clamped. -/
module

public import proofs.«01_k».proof.Proof.Gather
public import proofs.«01_k».proof.Proof.Index
public import proofs.«01_k».proof.Proof.Real
public import Idealize.ShloMosaic.Lib.Routing.Ops

@[expose] public section

set_option maxRecDepth 16384

noncomputable section

namespace Cert.Proof

open Idealize.ShloMosaic Cert.ReferenceIdeal Cert.ReferenceIdeal.Value

/-- A left fold over the positions is a fold over their set. -/
theorem foldl_univ {α : Type} {N : ℕ} (f : α → α → α) [Std.Commutative f] [Std.Associative f] (v : α) (g : Fin N → α) :
    (List.finRange N).foldl (fun r n => f r (g n)) v = Finset.univ.fold f v g := by
  rw [← List.foldl_map (f := g) (g := f)]
  show _ = Multiset.fold f v (Multiset.map g (Finset.univ : Finset (Fin N)).val)
  rw [show (Finset.univ : Finset (Fin N)).val = (List.finRange N : Multiset (Fin N)) from rfl, Multiset.map_coe, Multiset.coe_fold_l]

/-- Entry `n` of the window that ends at place `i` is a marked place. -/
def Landed (p : Fin 2048 → Prop) (i n : ℕ) : Prop := ∃ j : Fin 2048, j.val + 2047 = i + n ∧ p j

open Classical in
/-- A running sum of marks along a sentence counts the marked places so far. -/
theorem window_count (x : IVec S4x2048 32) (init : IVec S_ 32) (hinit : init ix0 = 0#32) (h : S4x2048.ReduceWindows (![1, 2048] : Fin 2 → ℕ) ![1, 1] ![0, 2047] ![0, 0] S4x2048)
    (hu : 0 < S_.numel) (p : Fin 2048 → Prop) (b : Fin 4) (hx : ∀ j, x (ix2 b j) = if p j then 1#32 else 0#32) (i : Fin 2048) :
    Host.reduceWindow IntOp.addi ![1, 2048] ![1, 1] ![0, 2047] ![0, 0] x init h hu (ix2 b i)
      = BitVec.ofNat 32 (Finset.univ.filter fun j => j ≤ i ∧ p j).card := by
  have hv : init (Shape.Idx.first hu) = 0#32 := (congrArg init (funext fun a => a.elim0)).trans hinit
  have hi := i.isLt
  unfold Host.reduceWindow
  dsimp only
  rw [foldl_univ, hv]
  rw [fold_marks _ (fun n : Fin (⟨2, ![1, 2048]⟩ : Shape).numel => Landed p i.val n.val)]
  · congr 1
    symm
    refine Finset.card_bij (fun j _ => (⟨(j.val + 2047 - i.val) % 2048, by rw [Routing.numel2]; omega⟩ : Fin (⟨2, ![1, 2048]⟩ : Shape).numel)) ?_ ?_ ?_
    · intro j hj
      obtain ⟨hji, hp⟩ := (Finset.mem_filter.1 hj).2
      have : j.val ≤ i.val := hji
      exact Finset.mem_filter.2 ⟨Finset.mem_univ _, j, by show _ = i.val + (j.val + 2047 - i.val) % 2048; omega, hp⟩
    · intro j hj k hk e
      have h1 : j.val ≤ i.val := (Finset.mem_filter.1 hj).2.1
      have h2 : k.val ≤ i.val := (Finset.mem_filter.1 hk).2.1
      have e' : (j.val + 2047 - i.val) % 2048 = (k.val + 2047 - i.val) % 2048 := congrArg Fin.val e
      exact Fin.ext (by omega)
    · intro n hn
      obtain ⟨j, hj, hp⟩ := (Finset.mem_filter.1 hn).2
      have hn' : n.val < 2048 := (n.cast (Routing.numel2 2048)).isLt
      exact ⟨j, Finset.mem_filter.2 ⟨Finset.mem_univ _, show j.val ≤ i.val by omega, hp⟩, Fin.ext (by show (j.val + 2047 - i.val) % 2048 = n.val; omega)⟩
  · intro n
    have hw0 : ((⟨2, ![1, 2048]⟩ : Shape).rowMajor.symm n 0).val = 0 := by
      rw [show (⟨2, ![1, 2048]⟩ : Shape).rowMajor.symm n = _ from Routing.symm2 n]; rfl
    have hw : ((⟨2, ![1, 2048]⟩ : Shape).rowMajor.symm n 1).val = n.val := by
      rw [show (⟨2, ![1, 2048]⟩ : Shape).rowMajor.symm n = _ from Routing.symm2 n]; rfl
    have hn : n.val < 2048 := (n.cast (Routing.numel2 2048)).isLt
    have hb := b.isLt
    split
    · next hin =>
      have h1 := hin 1
      change 2047 ≤ i.val * 1 + ((⟨2, ![1, 2048]⟩ : Shape).rowMajor.symm n 1).val
        ∧ i.val * 1 + ((⟨2, ![1, 2048]⟩ : Shape).rowMajor.symm n 1).val - 2047 < 2048 at h1
      rw [hw] at h1
      refine ((congrArg x (funext fun a => Fin.ext ?_)).trans (hx ⟨i.val + n.val - 2047, by omega⟩)).trans ?_
      · match a with
        | ⟨0, _⟩ =>
          show b.val * 1 + ((⟨2, ![1, 2048]⟩ : Shape).rowMajor.symm n 0).val - 0 = b.val
          rw [hw0]; omega
        | ⟨1, _⟩ =>
          show i.val * 1 + ((⟨2, ![1, 2048]⟩ : Shape).rowMajor.symm n 1).val - 2047 = i.val + n.val - 2047
          rw [hw, Nat.mul_one]
      · refine if_congr ⟨fun hp => ⟨_, by show i.val + n.val - 2047 + 2047 = _; omega, hp⟩, ?_⟩ rfl rfl
        rintro ⟨j, hj, hp⟩
        exact (Fin.ext (by show j.val = i.val + n.val - 2047; omega) : j = ⟨i.val + n.val - 2047, by omega⟩) ▸ hp
    · next hin =>
      rw [if_neg]
      rintro ⟨j, hj, -⟩
      have hj' := j.isLt
      refine hin fun a => ?_
      match a with
      | ⟨0, _⟩ =>
        show 0 ≤ b.val * 1 + ((⟨2, ![1, 2048]⟩ : Shape).rowMajor.symm n 0).val ∧ b.val * 1 + ((⟨2, ![1, 2048]⟩ : Shape).rowMajor.symm n 0).val - 0 < 4
        rw [hw0]
        omega
      | ⟨1, _⟩ =>
        show 2047 ≤ i.val * 1 + ((⟨2, ![1, 2048]⟩ : Shape).rowMajor.symm n 1).val
          ∧ i.val * 1 + ((⟨2, ![1, 2048]⟩ : Shape).rowMajor.symm n 1).val - 2047 < 2048
        rw [hw]
        omega

variable (V0 : Valuation τ sig (Elt Ideal))

/-- The tags the reference reads. -/
abbrev refTags : Vec Ideal Cert.KernelIdeal.S4x2048 .i32 := V0 (Proc.devRef .tc main_arg1)

/-- The reference's depth index. -/
theorem ref_depth (b : Fin 4) (i : Fin 2048) : res_main_v4 (F := Ideal) V0 (ix2 b i) = BitVec.ofNat 32 (rankRow (Tagged (refTags V0) 15#32 b) i) := by
  classical
  unfold res_main_v4
  pointwise [id]
  rw [window_count _ _ rfl _ _ (Tagged (refTags V0) 15#32 b) b (fun j => @mark_word (refTags V0 (ix2 b j)) 15#32 (Classical.propDecidable _)),
    clamp_count _ ((Finset.card_le_univ _).trans_eq (Fintype.card_fin 2048))]
  unfold rankRow
  congr!

/-- The reference's conjunction index. -/
theorem ref_conj (b : Fin 4) (i : Fin 2048) : res_main_v69 (F := Ideal) V0 (ix2 b i) = BitVec.ofNat 32 (rankRow (Tagged (refTags V0) 9#32 b) i) := by
  classical
  unfold res_main_v69
  pointwise [id]
  rw [window_count _ _ rfl _ _ (Tagged (refTags V0) 9#32 b) b (fun j => @mark_word (refTags V0 (ix2 b j)) 9#32 (Classical.propDecidable _)),
    clamp_count _ ((Finset.card_le_univ _).trans_eq (Fintype.card_fin 2048))]
  unfold rankRow
  congr!

end Cert.Proof

end
-- ==== Proof.RefNear.lean ====
/- The reference's distance index at a place: the first of the verbs at least distance is chosen, and its signed distance clamped. -/
module

public import proofs.«01_k».proof.Proof.RefIdx

@[expose] public section

set_option maxRecDepth 16384

noncomputable section

namespace Cert.Proof

open Idealize.ShloMosaic Cert.ReferenceIdeal Cert.ReferenceIdeal.Value

theorem ofBits_9999 : Ideal.ofBits .f32 0x461C3C00#32 = ((9999 : ℝ) : EReal) := by
  simp [Ideal.ofBits, Ideal.ieee, -EReal.coe_mul]; norm_num

theorem ofBits_9998 : Ideal.ofBits .f32 0x461C3800#32 = ((9998 : ℝ) : EReal) := by
  simp [Ideal.ofBits, Ideal.ieee, -EReal.coe_mul]; norm_num

theorem ofBits_far : Ideal.ofBits .f32 0x4E6E6B28#32 = ((1000000000 : ℝ) : EReal) := by
  simp [Ideal.ofBits, Ideal.ieee, -EReal.coe_mul]; norm_num

theorem ofBits_16 : Ideal.ofBits .f32 0x41800000#32 = ((16 : ℝ) : EReal) := by
  simp [Ideal.ofBits, Ideal.ieee, -EReal.coe_mul]; norm_num

theorem ofBits_neg16 : Ideal.ofBits .f32 0xC1800000#32 = ((-16 : ℝ) : EReal) := by
  simp [Ideal.ofBits, Ideal.ieee, -EReal.coe_mul]; norm_num

theorem ofBits_inf : Ideal.ofBits .f32 0x7F800000#32 = ⊤ := by
  simp [Ideal.ofBits, Ideal.ieee]

variable (V0 : Valuation τ sig (Elt Ideal))

theorem ten_ne_eleven : ¬ (10#32 : BitVec 32) = 11#32 := by decide

open Classical in
/-- One at a verb, zero elsewhere. -/
theorem ref_isVerb (b : Fin 4) (j : Fin 2048) : res_main_v19 (F := Ideal) V0 (ix2 b j) = ((if Verb (refTags V0) b j then 1 else 0 : ℝ) : EReal) := by
  have hu : ∀ w : BitVec 1, (FloatOps.uitofp .f32 w : Ideal .f32) = ((w.toNat : ℝ) : EReal) := fun _ => rfl
  unfold res_main_v19
  pointwise [id]
  rw [hu, hu, @eq_word _ _ (Classical.propDecidable _), @eq_word _ _ (Classical.propDecidable _)]
  have hV : Verb (refTags V0) b j ↔ refTags V0 (ix2 b j) = 10#32 ∨ refTags V0 (ix2 b j) = 11#32 := Iff.rfl
  by_cases h : V0 (Proc.tc.devRef main_arg1) (ix2 b j) = 10#32 <;> by_cases h' : V0 (Proc.tc.devRef main_arg1) (ix2 b j) = 11#32
  · exact absurd (h.symm.trans h') ten_ne_eleven
  · rw [if_pos (hV.2 (.inl h))]; simp [h, h']
  · rw [if_pos (hV.2 (.inr h'))]; simp [h, h']
  · rw [if_neg fun e => (hV.1 e).elim h h']; simp [h, h']

open Classical in
/-- The distance the reference ranks a place by: the distance to a verb, and a thousand million elsewhere. -/
def key (P : Fin 2048 → Prop) (i j : Fin 2048) : ℝ := if P j then |(i.val : ℝ) - j.val| else 1000000000

theorem place_real (j : Fin 2048) : (FloatOps.sitofp .f32 (BitVec.ofNat 32 j.val) : Ideal .f32) = ((j.val : ℝ) : EReal) := by
  show (((BitVec.ofNat 32 j.val).toInt : ℝ) : EReal) = _
  rw [toInt_small _ (by omega)]
  simp

open Classical in
/-- The signed distance to a verb. -/
theorem ref_dist (b : Fin 4) (i j : Fin 2048) :
    res_main_v33 (F := Ideal) V0 (ix3 b i j) = (((i.val : ℝ) - (if Verb (refTags V0) b j then (j.val : ℝ) else 9999) : ℝ) : EReal) := by
  unfold res_main_v33 res_main_v28 res_main_v20
  pointwise [id]
  rw [place_real, place_real, ref_isVerb, ofBits_9999]
  split_ifs
  · rw [← EReal.coe_one, ← EReal.coe_sub, ← EReal.coe_mul, ← EReal.coe_mul, ← EReal.coe_add, ← EReal.coe_sub]
    simp
  · rw [← EReal.coe_one, ← EReal.coe_sub, ← EReal.coe_mul, ← EReal.coe_mul, ← EReal.coe_add, ← EReal.coe_sub]
    simp

theorem ref_key (b : Fin 4) (i j : Fin 2048) : res_main_v38 (F := Ideal) V0 (ix3 b i j) = ((key (Verb (refTags V0) b) i j : ℝ) : EReal) := by
  classical
  have hj : (j.val : ℝ) < 9998 := lt_trans (Nat.cast_lt.2 j.isLt) (by norm_num)
  have ha : ∀ x : EReal, (FloatOps.absf (F := Ideal) (φ := .f32) x : EReal) = max x (-x) := fun _ => rfl
  unfold res_main_v38
  pointwise [id]
  rw [ha, ref_dist, ofBits_9998, ofBits_far]
  unfold res_main_v28 res_main_v20
  pointwise [id]
  rw [place_real, ref_isVerb, ofBits_9999]
  unfold key
  by_cases h : Verb (refTags V0) b j
  · simp only [if_pos h]
    rw [← EReal.coe_one, ← EReal.coe_sub, ← EReal.coe_mul, ← EReal.coe_mul, ← EReal.coe_add, if_pos (EReal.coe_lt_coe_iff.2 (by simpa using hj)),
      ← EReal.coe_neg, ← coe_max, abs_eq_max_neg]
  · simp only [if_neg h]
    rw [← EReal.coe_one, ← EReal.coe_sub, ← EReal.coe_mul, ← EReal.coe_mul, ← EReal.coe_add, if_neg (fun e => absurd (EReal.coe_lt_coe_iff.1 e) (by norm_num))]

/-- Among finitely many places there is a first one at least distance. -/
theorem exists_first (k : Fin 2048 → ℝ) : ∃ j0, (∀ j, k j0 ≤ k j) ∧ ∀ j, k j = k j0 → j0 ≤ j := by
  classical
  obtain ⟨m, -, hm⟩ := Finset.exists_min_image Finset.univ k ⟨0, Finset.mem_univ _⟩
  have hne : (Finset.univ.filter fun j => k j = k m).Nonempty := ⟨m, Finset.mem_filter.2 ⟨Finset.mem_univ _, rfl⟩⟩
  refine ⟨(Finset.univ.filter fun j => k j = k m).min' hne, fun j => ?_, fun j hj => ?_⟩
  · rw [(Finset.mem_filter.1 (Finset.min'_mem _ hne)).2]
    exact hm j (Finset.mem_univ _)
  · have h0 := (Finset.mem_filter.1 (Finset.min'_mem _ hne)).2
    exact Finset.min'_le _ j (Finset.mem_filter.2 ⟨Finset.mem_univ j, hj.trans h0⟩)

/-- The last axis of the distances is the one reduced away. -/
theorem reduces_last : S4x2048x2048.Reduces [2] S4x2048 := by decide

theorem lift_last (b : Fin 4) (i j : Fin 2048) : reduces_last.lift (ix2 b i) j = ix3 b i j := by
  funext a
  refine Fin.ext ?_
  match a with
  | ⟨0, _⟩ => rfl
  | ⟨1, _⟩ => rfl
  | ⟨2, _⟩ => rfl

/-- A trailing axis of length one added. -/
theorem spread_last (x : IVec S4x2048 32) (h) (b : Fin 4) (i : Fin 2048) :
    broadcastInDim S4x2048x1 ![0, 1] h x (ix3 b i 0) = x (ix2 b i) := by
  pointwise

/-- The place the reference chooses. -/
theorem ref_first (b : Fin 4) (i : Fin 2048) (j0 : Fin 2048) (hmin : ∀ j, key (Verb (refTags V0) b) i j0 ≤ key (Verb (refTags V0) b) i j)
    (hfst : ∀ j, key (Verb (refTags V0) b) i j = key (Verb (refTags V0) b) i j0 → j0 ≤ j) :
    res_main_v46 (F := Ideal) V0 (ix3 b i 0) = BitVec.ofNat 32 j0.val := by
  classical
  have hleast : Host.reduce (FloatOps.minimumf (F := Ideal) (φ := .f32)) (res_main_v38 (F := Ideal) V0) (constant (F := Ideal) S_ .f32 0x7F800000#32) Gen.reducesTo_S4x2048x2048_S4x2048_d2 Gen.h_S_ (ix2 b i)
      = ((key (Verb (refTags V0) b) i j0 : ℝ) : EReal) := by
    rw [Host.reduce_eq_fold_single _ _ _ _ reduces_last]
    refine (Finset.fold_congr (g := fun j => ((key (Verb (refTags V0) b) i j : ℝ) : EReal)) fun j _ =>
      (congrArg (res_main_v38 (F := Ideal) V0) (lift_last b i j)).trans (ref_key V0 b i j)).trans ?_
    show Finset.univ.fold (min : EReal → EReal → EReal) _ _ = _
    refine le_antisymm ((Finset.fold_min_le _).2 (.inr ⟨j0, Finset.mem_univ _, le_rfl⟩)) ((Finset.le_fold_min _).2 ⟨?_, fun j _ => EReal.coe_le_coe_iff.2 (hmin j)⟩)
    show _ ≤ Ideal.ofBits .f32 0x7F800000#32
    rw [ofBits_inf]
    exact le_top
  unfold res_main_v46
  rw [spread_last]
  generalize Host.reduce (FloatOps.minimumf (F := Ideal) (φ := .f32)) (res_main_v38 (F := Ideal) V0) (constant (F := Ideal) S_ .f32 0x7F800000#32) Gen.reducesTo_S4x2048x2048_S4x2048_d2 Gen.h_S_ = M at hleast ⊢
  rw [Host.reduce_eq_fold_single (IntOp.minsi : BitVec 32 → BitVec 32 → BitVec 32) _ _ _ reduces_last]
  refine (Finset.fold_congr (g := fun j : Fin 2048 => if key (Verb (refTags V0) b) i j = key (Verb (refTags V0) b) i j0 then BitVec.ofNat 32 j.val else 2047#32) fun j _ => ?_).trans ?_
  rotate_left
  · refine BitVec.eq_of_toInt_eq ?_
    have h0 := j0.isLt
    rw [toInt_small _ (by omega)]
    show (Finset.univ.fold IntOp.minsi (2147483647#32) _).toInt = _
    rw [← Finset.fold_hom (m := BitVec.toInt) (op' := min) (fun x y => toInt_minsi x y)]
    refine le_antisymm ((Finset.fold_min_le _).2 (.inr ⟨j0, Finset.mem_univ _, ?_⟩)) ((Finset.le_fold_min _).2 ⟨?_, fun j _ => ?_⟩)
    · rw [if_pos rfl, toInt_small _ (by omega)]
    · rw [show (2147483647#32).toInt = 2147483647 by decide]; omega
    · have hj := j.isLt
      split_ifs with h
      · rw [toInt_small _ (by omega)]
        exact_mod_cast hfst j h
      · rw [show (2047#32).toInt = 2047 by decide]; omega
  · show select _ _ _ (reduces_last.lift (ix2 b i) j) = _
    rw [lift_last]
    pointwise [id]
    rw [hleast, ref_key]
    exact if_congr EReal.coe_eq_coe_iff rfl rfl

/-- The first least place among the keys, where there is a verb, is the nearest verb. -/
theorem near_of_first {P : Fin 2048 → Prop} {i j0 : Fin 2048} (hP : ∃ j, P j) (hmin : ∀ j, key P i j0 ≤ key P i j)
    (hfst : ∀ j, key P i j = key P i j0 → j0 ≤ j) : P j0 ∧ Near P i ((i.val : ℤ) - j0.val) := by
  classical
  have hk : ∀ j, P j → key P i j = ((|(i.val : ℤ) - j.val| : ℤ) : ℝ) := fun j h => by
    unfold key
    rw [if_pos h]
    push_cast
    rfl
  have h0 : P j0 := by
    by_contra h
    obtain ⟨j, hj⟩ := hP
    have h1 := hmin j
    rw [hk j hj] at h1
    unfold key at h1
    rw [if_neg h] at h1
    have h2 : (1000000000 : ℤ) ≤ |(i.val : ℤ) - j.val| := by exact_mod_cast h1
    have := i.isLt
    have := j.isLt
    simp only [abs_eq_max_neg] at h2
    omega
  refine ⟨h0, j0, h0, rfl, fun k hkP => ?_⟩
  have h1 := hmin k
  rw [hk k hkP, hk j0 h0] at h1
  have h2 : |(i.val : ℤ) - j0.val| ≤ |(i.val : ℤ) - k.val| := by exact_mod_cast h1
  rcases lt_or_eq_of_le h2 with h | h
  · exact .inl h
  · exact .inr ⟨h, hfst k (by rw [hk k hkP, hk j0 h0, h])⟩

/-- A whole number kept between -16 and 16, converted to a word. -/
theorem clamp_real (z : ℤ) : FloatOps.fptosi (F := Ideal) (φ := .f32) 32 (min ((16 : ℝ) : EReal) (max ((-16 : ℝ) : EReal) ((z : ℝ) : EReal)))
    = BitVec.ofInt 32 (min 16 (max (-16) z)) := by
  show Ideal.fptosi 32 _ = _
  rw [← coe_max, ← coe_min]
  have : (min 16 (max (-16) (z : ℝ)) : ℝ) = ((min 16 (max (-16) z) : ℤ) : ℝ) := by push_cast; rfl
  rw [this]
  unfold Ideal.fptosi
  rw [Ideal.toIntClamped_coe, Int.floor_intCast, Int.ceil_intCast, ite_self]
  congr 1
  norm_num

/-- The reference's distance index. -/
theorem ref_verb (b : Fin 4) (i : Fin 2048) : res_main_v57 (F := Ideal) V0 (ix2 b i) = BitVec.ofNat 32 (nearRow (Verb (refTags V0) b) i) := by
  classical
  obtain ⟨j0, hmin, hfst⟩ := exists_first (key (Verb (refTags V0) b) i)
  have hi := i.isLt
  have hj0 := j0.isLt
  have hsum : (0 : EReal) < ∑ x : Fin 2048, ((if Verb (refTags V0) b x then 1 else 0 : ℝ) : EReal) ↔ ∃ j, Verb (refTags V0) b j := by
    rw [← coe_sum, ← EReal.coe_zero, EReal.coe_lt_coe_iff]
    constructor
    · intro h
      by_contra hn
      have hn' : ∀ j, ¬ Verb (refTags V0) b j := fun j hj => hn ⟨j, hj⟩
      simp [hn'] at h
    · rintro ⟨j, hj⟩
      refine Finset.sum_pos' (fun x _ => by split_ifs <;> norm_num) ⟨j, Finset.mem_univ _, by rw [if_pos hj]; norm_num⟩
  unfold res_main_v57
  pointwise [id]
  simp only [ref_isVerb, ofBits_16, ofBits_neg16]
  rw [take_along]
  have hidx : shapeCast S4x2048x1x1
      (select (cmpi CmpIPredicate.slt (res_main_v46 (F := Ideal) V0) (broadcastInDim S4x2048x1 ![] Gen.bcast_S_S4x2048x1 (constantI S_ 32 0#32)))
        (addi (res_main_v46 (F := Ideal) V0) (broadcastInDim S4x2048x1 ![] Gen.bcast_S_S4x2048x1 (constantI S_ 32 2048#32))) (res_main_v46 (F := Ideal) V0))
      Gen.shapeCasts_S4x2048x1_S4x2048x1x1 (ix4 b i 0 0) = BitVec.ofNat 32 j0.val := by
    pointwise
    rw [ref_first V0 b i j0 hmin hfst]
    show Scalar.select (BitVec.ofBool ((BitVec.ofNat 32 j0.val).slt 0#32)) _ _ = _
    have : (BitVec.ofNat 32 j0.val).slt 0#32 = false := by
      rw [BitVec.slt_eq_decide, toInt_small _ (by omega)]
      simp
    rw [this]
    rfl
  simp only [hidx]
  have hat : ∀ h, (⟨min (BitVec.ofNat 32 j0.val).toInt.toNat 2047, h⟩ : Fin 2048) = j0 := fun h => by
    refine Fin.ext ?_
    show min _ _ = j0.val
    rw [toInt_small _ (by omega)]
    omega
  rw [hat, ref_dist]
  by_cases hP : ∃ j, Verb (refTags V0) b j
  · obtain ⟨h0, hN⟩ := near_of_first hP hmin hfst
    rw [if_pos (hsum.2 hP), if_pos h0]
    have hz : ((i.val : ℝ) - (j0.val : ℝ)) = (((i.val : ℤ) - j0.val : ℤ) : ℝ) := by push_cast; rfl
    rw [hz, clamp_real]
    unfold nearRow
    rw [nearDist_eq hN]
    refine BitVec.eq_of_toInt_eq ?_
    have h16 : (16#32).toInt = 16 := by decide
    have hw : (BitVec.ofInt 32 (min 16 (max (-16) ((i.val : ℤ) - j0.val)))).toInt = min 16 (max (-16) ((i.val : ℤ) - j0.val)) := by
      rw [BitVec.toInt_ofInt]
      exact Int.bmod_eq_of_le (by omega) (by omega)
    rw [toInt_small _ (by omega), toInt_addi _ _ (by rw [hw, h16]; omega) (by rw [hw, h16]; omega), hw, h16]
    omega
  · rw [if_neg (fun h => hP (hsum.1 h))]
    have hz : (0 : EReal) = (((0 : ℤ) : ℝ) : EReal) := by simp
    rw [hz, clamp_real]
    unfold nearRow
    rw [nearDist_none hP]
    rfl

end Cert.Proof

end
-- ==== Proof.Block.lean ====
/- One entry of the kernel's result, over real tables: the normalised gelu of the linear layer over the rows the three index arrays name. -/
module

public import proofs.«01_k».proof.Proof.Index
public import proofs.«01_k».proof.Proof.Real

@[expose] public section

set_option maxRecDepth 16384

noncomputable section

namespace Cert.Proof

open Idealize.ShloMosaic Cert.KernelIdeal Cert.KernelIdeal.Gen

/-- The normalisation at the end of a block. -/
theorem pay1_apply (h e : FVec Ideal S512x768 .f32) (r : Fin 512) (g t : Fin 768 → ℝ) (hr : ∀ x, e (ix2 r x) + h (ix2 r x) = ((t x : ℝ) : EReal))
    (ht : ∀ x, t x = Real.sqrt 2 * g x) (n : Fin 768) : k0_pay1 h e (ix3 0 r n) = ((normed tiny g n : ℝ) : EReal) := by
  unfold k0_pay1
  pointwise
  simp only [hr, named_inv_d, named_rsqrt2, ofBits_tiny, ofBits_half, ← EReal.coe_mul, ← coe_sum, ← EReal.coe_sub, ← EReal.coe_add]
  rw [half_spread g t ht, rsqrt_pos (add_pos_of_nonneg_of_pos (spread_nonneg g) tiny_pos)]
  rw [← normed_scaled tiny g t ht n]
  simp only [← EReal.coe_mul, ← EReal.coe_zero, ← EReal.coe_sub, ← EReal.coe_add]

/-- The folded table, row by row. -/
def foldedRow (D : Fin 8 → Fin 192 → ℝ) (V : Fin 33 → Fin 192 → ℝ) (C : Fin 8 → Fin 192 → ℝ) (R : Fin 1 → Fin 192 → ℝ)
    (W : Fin 768 → Fin 768 → ℝ) (x : ℕ) (n : Fin 768) : ℝ :=
  (if h : x < 8 then band D W ⟨x, h⟩ 0 (by norm_num) n
    else if h : x - 8 < 33 then band V W ⟨x - 8, h⟩ 192 (by norm_num) n
    else if x - 8 - 33 < 7 then 0
    else if h : x - 8 - 33 - 7 < 8 then band C W ⟨x - 8 - 33 - 7, h⟩ 384 (by norm_num) n
    else if h : x - 8 - 33 - 7 - 8 < 1 then band R W ⟨x - 8 - 33 - 7 - 8, h⟩ 576 (by norm_num) n
    else 0) * (Real.sqrt 2)⁻¹

/-- The kernel's folded table over real tables. -/
theorem table_apply (D : Fin 8 → Fin 192 → ℝ) (V : Fin 33 → Fin 192 → ℝ) (C : Fin 8 → Fin 192 → ℝ) (R : Fin 1 → Fin 192 → ℝ)
    (W : Fin 768 → Fin 768 → ℝ) (x : Fin 64) (n : Fin 768) :
    table (fun j => ((D (j 0) (j 1) : ℝ) : EReal)) (fun j => ((V (j 0) (j 1) : ℝ) : EReal)) (fun j => ((C (j 0) (j 1) : ℝ) : EReal))
      (fun j => ((R (j 0) (j 1) : ℝ) : EReal)) (fun j => ((W (j 0) (j 1) : ℝ) : EReal)) (ix2 x n) = ((foldedRow D V C R W x.val n : ℝ) : EReal) := by
  unfold table k0_pay2 foldedRow band
  pointwise
  rw [named_rsqrt2, EReal.coe_mul]
  refine congrArg (· * _) ?_
  simp only [← EReal.coe_mul, ← coe_sum]
  split_ifs <;> simp

/-- A one-hot entry: one where the row is the word's, zero elsewhere. -/
theorem hot (x p : ℕ) (hx : x < 64) (hp : p < 64) :
    (FloatOps.sitofp .f32 (BitVec.setWidth 32 (IntOp.cmpi .eq (BitVec.ofNat 32 x) (BitVec.ofNat 32 p))) : Ideal .f32)
      = (((if x = p then 1 else 0 : ℝ)) : EReal) := by
  by_cases h : x = p
  · subst h
    rw [if_pos rfl]
    have : IntOp.cmpi .eq (BitVec.ofNat 32 x) (BitVec.ofNat 32 x) = 1#1 := by simp [IntOp.cmpi]
    rw [this]
    show (((BitVec.setWidth 32 1#1).toInt : ℝ) : EReal) = _
    simp
  · rw [if_neg h]
    have hne : BitVec.ofNat 32 x ≠ BitVec.ofNat 32 p := fun e => h (by
      have := congrArg BitVec.toNat e
      simpa [BitVec.toNat_ofNat, Nat.mod_eq_of_lt (show x < 4294967296 by omega), Nat.mod_eq_of_lt (show p < 4294967296 by omega)] using this)
    have : IntOp.cmpi .eq (BitVec.ofNat 32 x) (BitVec.ofNat 32 p) = 0#1 := by
      unfold IntOp.cmpi
      simp only [beq_eq_false_iff_ne.2 hne]
      rfl
    rw [this]
    show (((BitVec.setWidth 32 0#1).toInt : ℝ) : EReal) = _
    simp

/-- The position of a word in its sentence, from the block's number and the place in the block. -/
theorem place_word (w r : ℕ) (hw : w < 4) (hr : r < 512) :
    (FloatOps.sitofp .f32 (IntOp.addi (BitVec.ofNat 32 r) (Scalar.muli (BitVec.ofNat 32 w) 512#32)) : Ideal .f32)
      = (((512 * w + r : ℕ) : ℝ) : EReal) := by
  have h : IntOp.addi (BitVec.ofNat 32 r) (Scalar.muli (BitVec.ofNat 32 w) 512#32) = BitVec.ofNat 32 (512 * w + r) := by
    apply BitVec.eq_of_toNat_eq
    simp [IntOp.addi, Scalar.muli, IntOp.muli]
    omega
  rw [h]
  show (((BitVec.ofNat 32 (512 * w + r)).toInt : ℝ) : EReal) = _
  rw [show (BitVec.ofNat 32 (512 * w + r)).toInt = ((512 * w + r : ℕ) : ℤ) from toInt_ofNat_small _ (by omega)]
  simp

/-- The product of the stacked one-hot columns with the folded table picks the three rows and the position's multiple of the last. -/
theorem pay35_apply (i : grid0.Coords) (d v c : Vec Ideal S1x512 .i32) (s : Elt Ideal .i32) (T : FVec Ideal S64x768 .f32) (r : Fin 512)
    (t : ℕ → Fin 768 → ℝ) (hT : ∀ (x : Fin 64) n, T (ix2 x n) = ((t x.val n : ℝ) : EReal))
    (p : Fin 8) (k : Fin 33) (q : Fin 8) (hp : d (ix2 0 r) = BitVec.ofNat 32 p.val) (hk : v (ix2 0 r) = BitVec.ofNat 32 k.val)
    (hq : c (ix2 0 r) = BitVec.ofNat 32 q.val) (n : Fin 768) :
    k0_pay35 i d v c s T (ix2 r n) = ((t p.val n + t (8 + k.val) n + t (48 + q.val) n
      + ((512 * (i 1).val + r.val : ℕ) : ℝ) * (1 / max (s.toInt : ℝ) 1) * t 56 n : ℝ) : EReal) := by
  unfold k0_pay35
  pointwise
  have hM : max (s.toInt : ℝ) 1 ≠ 0 := (lt_of_lt_of_le one_pos (le_max_right _ _)).ne'
  have hone : (1 : EReal) = ((1 : ℝ) : EReal) := rfl
  rw [hp, hk, hq, place_word _ _ (i 1).isLt r.isLt, hone, ← coe_max, div_real 1 hM]
  rw [show (∑ x : Fin 64, _ : EReal) = ∑ x : Fin 64, (((if x = (⟨p.val, by omega⟩ : Fin 64) then t x.val n else 0)
      + (if x = (⟨8 + k.val, by omega⟩ : Fin 64) then t x.val n else 0) + (if x = (⟨48 + q.val, by omega⟩ : Fin 64) then t x.val n else 0)
      + (if x = (⟨56, by omega⟩ : Fin 64) then ((512 * (i 1).val + r.val : ℕ) : ℝ) * (1 / max (s.toInt : ℝ) 1) * t x.val n else 0) : ℝ) : EReal)
    from Finset.sum_congr rfl fun x _ => ?_]
  · rw [← coe_sum]
    simp only [Finset.sum_add_distrib, Finset.sum_ite_eq', Finset.mem_univ, if_true]
  · rw [hT x n]
    simp only [Fin.ext_iff]
    by_cases h1 : x.val < 8
    · rw [dif_pos h1, hot _ _ (by omega) (by omega), ← EReal.coe_mul]
      simp [show ¬ x.val = 8 + k.val by omega, show ¬ x.val = 48 + q.val by omega, show ¬ x.val = 56 by omega]
    rw [dif_neg h1]
    by_cases h2 : x.val - 8 < 40
    · rw [dif_pos h2, hot _ _ (by omega) (by omega), ← EReal.coe_mul]
      simp [show ¬ x.val = p.val by omega, show ¬ x.val = 48 + q.val by omega, show ¬ x.val = 56 by omega,
        show (x.val - 8 = k.val) = (x.val = 8 + k.val) from propext (by omega)]
    rw [dif_neg h2]
    by_cases h3 : x.val - 8 - 40 < 8
    · rw [dif_pos h3, hot _ _ (by omega) (by omega), ← EReal.coe_mul]
      simp [show ¬ x.val = p.val by omega, show ¬ x.val = 8 + k.val by omega, show ¬ x.val = 56 by omega,
        show (x.val - 8 - 40 = q.val) = (x.val = 48 + q.val) from propext (by omega)]
    rw [dif_neg h3]
    by_cases h4 : x.val - 8 - 40 - 8 < 1
    · rw [dif_pos h4, ← EReal.coe_mul, ← EReal.coe_mul]
      simp [show ¬ x.val = p.val by omega, show ¬ x.val = 8 + k.val by omega, show ¬ x.val = 48 + q.val by omega, show x.val = 56 by omega,
        show ¬ 56 = p.val by omega, show ¬ 56 = 8 + k.val by omega, show ¬ 56 = 48 + q.val by omega]
    · rw [dif_neg h4, zero_mul]
      simp [show ¬ x.val = p.val by omega, show ¬ x.val = 8 + k.val by omega, show ¬ x.val = 48 + q.val by omega, show ¬ x.val = 56 by omega]

/-- The folded rows a word picks, added, are its linear layer over the square root of two. -/
theorem folded_linear (D : Fin 8 → Fin 192 → ℝ) (V : Fin 33 → Fin 192 → ℝ) (C : Fin 8 → Fin 192 → ℝ) (R : Fin 1 → Fin 192 → ℝ)
    (W : Fin 768 → Fin 768 → ℝ) (p : Fin 8) (k : Fin 33) (q : Fin 8) (ρ : ℝ) (n : Fin 768) :
    foldedRow D V C R W p.val n + foldedRow D V C R W (8 + k.val) n + foldedRow D V C R W (48 + q.val) n + ρ * foldedRow D V C R W 56 n
      = linear D V C R W p k q ρ n * (Real.sqrt 2)⁻¹ := by
  have h1 : foldedRow D V C R W p.val n = band D W p 0 (by norm_num) n * (Real.sqrt 2)⁻¹ := by
    unfold foldedRow; rw [dif_pos p.isLt]
  have h2 : foldedRow D V C R W (8 + k.val) n = band V W k 192 (by norm_num) n * (Real.sqrt 2)⁻¹ := by
    have e : (8 + k.val) - 8 = k.val := by omega
    unfold foldedRow; rw [dif_neg (by omega), dif_pos (by omega)]; simp only [e]
  have h3 : foldedRow D V C R W (48 + q.val) n = band C W q 384 (by norm_num) n * (Real.sqrt 2)⁻¹ := by
    have e : (48 + q.val) - 8 - 33 - 7 = q.val := by omega
    unfold foldedRow; rw [dif_neg (by omega), dif_neg (by omega), if_neg (by omega), dif_pos (by omega)]; simp only [e]
  have h4 : foldedRow D V C R W 56 n = band R W 0 576 (by norm_num) n * (Real.sqrt 2)⁻¹ := by
    unfold foldedRow; rw [dif_neg (by omega), dif_neg (by omega), if_neg (by omega), dif_neg (by omega), dif_pos (by omega)]; rfl
  rw [h1, h2, h3, h4]
  unfold linear
  ring

/-- The row of the depth table a word takes. -/
def depthRow (T : Vec Ideal S4x2048 .i32) (b : Fin 4) (s : Fin 2048) : Fin 8 := ⟨rankRow (Tagged T 15#32 b) s, rankRow_lt _ _⟩

/-- The row of the conjunction table a word takes. -/
def conjRow (T : Vec Ideal S4x2048 .i32) (b : Fin 4) (s : Fin 2048) : Fin 8 := ⟨rankRow (Tagged T 9#32 b) s, rankRow_lt _ _⟩

/-- The row of the verb distance table a word takes. -/
def verbRow (T : Vec Ideal S4x2048 .i32) (b : Fin 4) (s : Fin 2048) : Fin 33 := ⟨nearRow (Verb T b) s, nearRow_lt _ _⟩

/-- The result at a word: the normalised gelu of the linear layer over its embeddings. -/
def answer (D : Fin 8 → Fin 192 → ℝ) (V : Fin 33 → Fin 192 → ℝ) (C : Fin 8 → Fin 192 → ℝ) (R : Fin 1 → Fin 192 → ℝ)
    (W : Fin 768 → Fin 768 → ℝ) (T : Vec Ideal S4x2048 .i32) (L : Vec Ideal S4 .i32) (b : Fin 4) (s : Fin 2048) (n : Fin 768) : ℝ :=
  normed tiny (fun x => gelu (linear D V C R W (depthRow T b s) (verbRow T b s) (conjRow T b s) ((s.val : ℝ) / max ((L (ix1 b)).toInt : ℝ) 1) x)) n

/-- The kernel's result over real tables. -/
theorem kernelOut_apply (D : Fin 8 → Fin 192 → ℝ) (V : Fin 33 → Fin 192 → ℝ) (C : Fin 8 → Fin 192 → ℝ) (R : Fin 1 → Fin 192 → ℝ)
    (W : Fin 768 → Fin 768 → ℝ) (T : Vec Ideal S4x2048 .i32) (L : Vec Ideal S4 .i32) (b : Fin 4) (s : Fin 2048) (n : Fin 768) :
    kernelOut T L (fun j => ((D (j 0) (j 1) : ℝ) : EReal)) (fun j => ((V (j 0) (j 1) : ℝ) : EReal)) (fun j => ((C (j 0) (j 1) : ℝ) : EReal))
      (fun j => ((R (j 0) (j 1) : ℝ) : EReal)) (fun j => ((W (j 0) (j 1) : ℝ) : EReal)) (ix3 b s n) = ((answer D V C R W T L b s n : ℝ) : EReal) := by
  have h0 : ((pointOf b s) 0 : ℕ) = b.val := rfl
  have h1 : ((pointOf b s) 1 : ℕ) = s.val / 512 := rfl
  have hrow : ∀ I : IVec S4x2048 32, View.ld (e' := .i32) (Val := Elt Ideal) I (rowRect (pointOf b s)) (ix2 0 ⟨s.val % 512, by omega⟩) = I (ix2 b s) := by
    intro I
    refine View.ld_unit_apply_of (Val := Elt Ideal) (e := .i32) I _ _ _ _ _ fun a => ?_
    refine Eq.trans ?_ (congrArg (fun f : Fin 2 → ℕ => f a + _) (Gen.k0_off1_eq (pointOf b s)).symm)
    match a with
    | ⟨0, _⟩ => show b.val = b.val + 0; omega
    | ⟨1, _⟩ => show s.val = 512 * (s.val / 512) + s.val % 512; omega
  have hlen : View.ld (e' := .i32) (Val := Elt Ideal) L (Rect.unit (s := S4) (k0_off2 (pointOf b s)) S1.size (Facts₀.k0_off2_inb _))
      (Shape.Idx.first (Nat.lt_of_lt_of_eq Nat.zero_lt_one Facts₀.numel1_S1.symm)) = L (ix1 b) := by
    refine View.ld_unit_apply_of (Val := Elt Ideal) (e := .i32) L _ _ _ _ _ fun a => ?_
    refine Eq.trans ?_ (congrArg (fun f : Fin 1 → ℕ => f a + _) (Gen.k0_off2_eq (pointOf b s)).symm)
    match a with
    | ⟨0, _⟩ => show b.val = b.val + 0; omega
  have hp : ∀ x : Fin 768, _ := fun x => pay35_apply (pointOf b s) (View.ld (e' := .i32) (Val := Elt Ideal) (depthIdx T) (rowRect (pointOf b s)))
    (View.ld (e' := .i32) (Val := Elt Ideal) (verbIdx T) (rowRect (pointOf b s))) (View.ld (e' := .i32) (Val := Elt Ideal) (conjIdx T) (rowRect (pointOf b s)))
    (L (ix1 b)) _ ⟨s.val % 512, by omega⟩ (foldedRow D V C R W) (table_apply D V C R W) (depthRow T b s) (verbRow T b s) (conjRow T b s)
    ((hrow _).trans (depthIdx_apply T b s)) ((hrow _).trans (verbIdx_apply T b s)) ((hrow _).trans (conjIdx_apply T b s)) x
  show blockOf (pointOf b s) _ _ _ L _ (ix3 0 ⟨s.val % 512, _⟩ n) = _
  unfold blockOf answer
  rw [hlen]
  refine pay1_apply _ _ _ _ (fun x => Real.sqrt 2 * gelu (linear D V C R W (depthRow T b s) (verbRow T b s) (conjRow T b s)
    ((s.val : ℝ) / max ((L (ix1 b)).toInt : ℝ) 1) x)) (fun x => ?_) (fun x => rfl) n
  have hs : ((512 * ((pointOf b s) 1).val + s.val % 512 : ℕ) : ℝ) * (1 / max ((L (ix1 b)).toInt : ℝ) 1) = (s.val : ℝ) / max ((L (ix1 b)).toInt : ℝ) 1 := by
    rw [h1, Nat.div_add_mod, mul_one_div]
  have hx := hp x
  rw [hs, folded_linear] at hx
  unfold k0_pay36
  pointwise
  rw [hx, show ∀ y : EReal, (FloatOps.erf (F := Ideal) (φ := .f32) y : EReal) = Ideal.erf y from fun _ => rfl, erf_real, ← EReal.coe_mul, ← EReal.coe_add, gelu_scaled]

end Cert.Proof

end
-- ==== Proof.RefValue.lean ====
/- The reference's result over real tables: the linear layer over the four embeddings, the exact gelu, the normalisation. -/
module

public import proofs.«01_k».proof.Proof.RefNear
public import proofs.«01_k».proof.Proof.Gather
public import proofs.«01_k».proof.Proof.Block

@[expose] public section

set_option maxRecDepth 16384

noncomputable section

namespace Cert.Proof

open Idealize.ShloMosaic Cert.ReferenceIdeal Cert.ReferenceIdeal.Value

theorem ofBits_768 : Ideal.ofBits .f32 0x44400000#32 = ((768 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

/-- An index that is not negative is not wrapped. -/
theorem wrap_small {k : ℕ} (hk : k < 2048) (w : BitVec 32) :
    Scalar.select (IntOp.cmpi .slt (BitVec.ofNat 32 k) 0#32) w (BitVec.ofNat 32 k) = BitVec.ofNat 32 k := by
  show Scalar.select (BitVec.ofBool ((BitVec.ofNat 32 k).slt 0#32)) _ _ = _
  have : (BitVec.ofNat 32 k).slt 0#32 = false := by
    rw [BitVec.slt_eq_decide, toInt_small _ (by omega)]
    simp
  rw [this]
  rfl

/-- A row taken at an index that is not negative. -/
theorem take_wrapped {α : Type} {N : ℕ} (hN : N < 2048) (d : GatherDims (⟨2, ![N, 192]⟩ : Shape) S4x2048x1 S4x2048x192) (hoff : d.offsetDims = [2])
    (hcoll : d.collapsedSliceDims = [0]) (hob : d.operandBatchingDims = []) (hsim : d.startIndexMap = [0]) (hivd : d.indexVectorDim = 2)
    (x : (⟨2, ![N, 192]⟩ : Shape).Idx → α) (v : IVec S4x2048 32) (c : BitVec 32) (k : Fin N) (b : Fin 4) (i : Fin 2048)
    (hv : v (ix2 b i) = BitVec.ofNat 32 k.val) (q : Fin 192) :
    Host.gather d x (broadcastInDim S4x2048x1 ![0, 1] Gen.bcast_S4x2048_S4x2048x1_0_1
      (select (cmpi .slt v (broadcastInDim S4x2048 ![] Gen.bcast_S_S4x2048 (constantI S_ 32 0#32)))
        (addi v (broadcastInDim S4x2048 ![] Gen.bcast_S_S4x2048 (constantI S_ 32 c))) v)) (ix3 b i q) = x (ix2 k q) := by
  have hk := k.isLt
  rw [take_row (by omega) d hoff hcoll hob hsim hivd]
  refine congrArg (fun z => x (ix2 z q)) (Fin.ext ?_)
  show min (BitVec.toInt _).toNat (N - 1) = k.val
  have hi : (broadcastInDim S4x2048x1 ![0, 1] Gen.bcast_S4x2048_S4x2048x1_0_1
      (select (cmpi .slt v (broadcastInDim S4x2048 ![] Gen.bcast_S_S4x2048 (constantI S_ 32 0#32)))
        (addi v (broadcastInDim S4x2048 ![] Gen.bcast_S_S4x2048 (constantI S_ 32 c))) v)) (ix3 b i 0) = BitVec.ofNat 32 k.val := by
    pointwise
    rw [hv]
    exact wrap_small (by omega) _
  rw [hi, toInt_small _ (by omega)]
  omega

/-- The four embeddings of a word side by side. -/
def embed (D : Fin 8 → Fin 192 → ℝ) (V : Fin 33 → Fin 192 → ℝ) (C : Fin 8 → Fin 192 → ℝ) (R : Fin 1 → Fin 192 → ℝ)
    (p : Fin 8) (k : Fin 33) (r : Fin 8) (ρ : ℝ) (x : Fin 768) : ℝ :=
  if h : x.val < 192 then D p ⟨x.val, h⟩ else if h : x.val < 384 then V k ⟨x.val - 192, by omega⟩ else
    if h : x.val < 576 then C r ⟨x.val - 384, by omega⟩ else ρ * R 0 ⟨x.val - 576, by omega⟩

section
variable (D : Fin 8 → Fin 192 → ℝ) (V : Fin 33 → Fin 192 → ℝ) (C : Fin 8 → Fin 192 → ℝ) (R : Fin 1 → Fin 192 → ℝ) (p : Fin 8) (k : Fin 33) (r : Fin 8) (ρ : ℝ)
  {x : Fin 768}

theorem embed_depth (h : x.val < 192) : embed D V C R p k r ρ x = D p ⟨x.val, h⟩ := dif_pos h

theorem embed_dist (h1 : ¬ x.val < 192) (h : x.val - 192 < 192) : embed D V C R p k r ρ x = V k ⟨x.val - 192, h⟩ := by
  unfold embed
  rw [dif_neg h1, dif_pos (show x.val < 384 by omega)]

theorem embed_conj (h1 : ¬ x.val < 192) (h2 : ¬ x.val - 192 < 192) (h : x.val - 384 < 192) : embed D V C R p k r ρ x = C r ⟨x.val - 384, h⟩ := by
  unfold embed
  rw [dif_neg h1, dif_neg (show ¬ x.val < 384 by omega), dif_pos (show x.val < 576 by omega)]

theorem embed_place (h : ¬ x.val < 576) : embed D V C R p k r ρ x = ρ * R 0 ⟨x.val - 576, by omega⟩ := by
  unfold embed
  rw [dif_neg (show ¬ x.val < 192 by omega), dif_neg (show ¬ x.val < 384 by omega), dif_neg h]

end

/-- The embeddings times the matrix, one band of the matrix for each embedding. -/
theorem embed_linear (D : Fin 8 → Fin 192 → ℝ) (V : Fin 33 → Fin 192 → ℝ) (C : Fin 8 → Fin 192 → ℝ) (R : Fin 1 → Fin 192 → ℝ)
    (W : Fin 768 → Fin 768 → ℝ) (p : Fin 8) (k : Fin 33) (r : Fin 8) (ρ : ℝ) (n : Fin 768) :
    ∑ x, embed D V C R p k r ρ x * W x n = linear D V C R W p k r ρ n := by
  have e : ∀ (a : Fin 4) (q : Fin 192), ((finProdFinEquiv (a, q) : Fin (4 * 192)) : ℕ) = q.val + 192 * a.val := fun _ _ => rfl
  have hs : ∑ x : Fin 768, embed D V C R p k r ρ x * W x n
      = ∑ y : Fin 4 × Fin 192, embed D V C R p k r ρ (finProdFinEquiv y : Fin (4 * 192)) * W (finProdFinEquiv y : Fin (4 * 192)) n :=
    (Fintype.sum_equiv (finProdFinEquiv (m := 4) (n := 192)) _ _ fun _ => rfl).symm
  rw [hs, Fintype.sum_prod_type, Fin.sum_univ_four]
  unfold linear band
  rw [Finset.mul_sum]
  have at_ : ∀ (a : Fin 4) (q : Fin 192) (o : ℕ) (ho : o + 192 ≤ 768), o = 192 * a.val →
      (finProdFinEquiv (a, q) : Fin (4 * 192)) = (⟨o + q.val, by omega⟩ : Fin 768) := fun a q o ho h => Fin.ext (by rw [e]; show _ = o + q.val; omega)
  refine congrArg₂ (· + ·) (congrArg₂ (· + ·) (congrArg₂ (· + ·) ?_ ?_) ?_) ?_
  · refine Finset.sum_congr rfl fun q _ => ?_
    rw [at_ 0 q 0 (by norm_num) rfl]
    refine congrArg (· * _) ?_
    unfold embed
    rw [dif_pos (show 0 + q.val < 192 by omega)]
    exact congrArg _ (Fin.ext (Nat.zero_add _))
  · refine Finset.sum_congr rfl fun q _ => ?_
    rw [at_ 1 q 192 (by norm_num) rfl]
    refine congrArg (· * _) ?_
    unfold embed
    rw [dif_neg (show ¬ 192 + q.val < 192 by omega), dif_pos (show 192 + q.val < 384 by omega)]
    exact congrArg _ (Fin.ext (Nat.add_sub_cancel_left ..))
  · refine Finset.sum_congr rfl fun q _ => ?_
    rw [at_ 2 q 384 (by norm_num) rfl]
    refine congrArg (· * _) ?_
    unfold embed
    rw [dif_neg (show ¬ 384 + q.val < 192 by omega), dif_neg (show ¬ 384 + q.val < 384 by omega), dif_pos (show 384 + q.val < 576 by omega)]
    exact congrArg _ (Fin.ext (Nat.add_sub_cancel_left ..))
  · refine Finset.sum_congr rfl fun q _ => ?_
    rw [at_ 3 q 576 (by norm_num) rfl, ← mul_assoc]
    refine congrArg (· * _) ?_
    unfold embed
    rw [dif_neg (show ¬ 576 + q.val < 192 by omega), dif_neg (show ¬ 576 + q.val < 384 by omega), dif_neg (show ¬ 576 + q.val < 576 by omega)]
    exact congrArg (fun z => ρ * R 0 z) (Fin.ext (Nat.add_sub_cancel_left ..))

variable (V0 : Valuation τ sig (Elt Ideal))

/-- The sentence lengths the reference reads. -/
def refLens : Vec Ideal S4 .i32 := V0 (Proc.devRef .tc main_arg2)

/-- The place of a word, as a number. -/
theorem ref_place (i : Fin 2048) : res_main_v20 (F := Ideal) V0 (ix1 i) = ((i.val : ℝ) : EReal) := by
  unfold res_main_v20
  pointwise [id]
  exact place_real i

/-- The linear layer of the reference. -/
theorem ref_linear (D : Fin 8 → Fin 192 → ℝ) (V : Fin 33 → Fin 192 → ℝ) (C : Fin 8 → Fin 192 → ℝ) (R : Fin 1 → Fin 192 → ℝ)
    (W : Fin 768 → Fin 768 → ℝ)
    (hD : ∀ p q, V0 (Proc.devRef .tc main_arg4) (ix2 p q) = ((D p q : ℝ) : EReal))
    (hV : ∀ p q, V0 (Proc.devRef .tc main_arg5) (ix2 p q) = ((V p q : ℝ) : EReal))
    (hC : ∀ p q, V0 (Proc.devRef .tc main_arg6) (ix2 p q) = ((C p q : ℝ) : EReal))
    (hR : ∀ p q, V0 (Proc.devRef .tc main_arg7) (ix2 p q) = ((R p q : ℝ) : EReal))
    (hr : ∀ q, V0 (Proc.devRef .tc main_arg8) (ix1 q) = (0 : EReal))
    (hW : ∀ p q, V0 (Proc.devRef .tc main_arg9) (ix2 p q) = ((W p q : ℝ) : EReal))
    (hb : ∀ q, V0 (Proc.devRef .tc main_arg10) (ix1 q) = (0 : EReal))
    (b : Fin 4) (i : Fin 2048) (n : Fin 768) :
    res_main_v93 (F := Ideal) V0 (ix3 b i n)
      = ((linear D V C R W (depthRow (refTags V0) b i) (verbRow (refTags V0) b i) (conjRow (refTags V0) b i)
          ((i.val : ℝ) / max ((refLens V0 (ix1 b)).toInt : ℝ) 1) n : ℝ) : EReal) := by
  unfold res_main_v93
  pointwise [id]
  refine (congrArg₂ (fun x y : EReal => x + y) ?_ (hb n)).trans (add_zero _)
  rw [← embed_linear, coe_sum]
  refine Finset.sum_congr rfl fun x _ => ?_
  rw [EReal.coe_mul]
  refine congrArg₂ (fun x y : EReal => x * y) ?_ (hW x n)
  by_cases h1 : x.val < 192
  · refine (dif_pos h1).trans ?_
    rw [embed_depth _ _ _ _ _ _ _ _ h1]
    exact (take_wrapped (by norm_num) gather_S8x192_S4x2048x1_S4x2048x192_2_0_n_n_0_2_1192 rfl rfl rfl rfl rfl _ _ _ (depthRow (refTags V0) b i) b i
      (ref_depth V0 b i) ⟨x.val, h1⟩).trans (hD _ _)
  refine (dif_neg h1).trans ?_
  by_cases h2 : x.val - 192 < 192
  · refine (dif_pos h2).trans ?_
    rw [embed_dist _ _ _ _ _ _ _ _ h1 h2]
    exact (take_wrapped (by norm_num) gather_S33x192_S4x2048x1_S4x2048x192_2_0_n_n_0_2_1192 rfl rfl rfl rfl rfl _ _ _ (verbRow (refTags V0) b i) b i
      (ref_verb V0 b i) ⟨x.val - 192, h2⟩).trans (hV _ _)
  refine (dif_neg h2).trans ?_
  by_cases h3 : x.val - 192 - 192 < 192
  · refine (dif_pos h3).trans ?_
    rw [embed_conj _ _ _ _ _ _ _ _ h1 h2 (by omega)]
    refine (take_wrapped (by norm_num) gather_S8x192_S4x2048x1_S4x2048x192_2_0_n_n_0_2_1192 rfl rfl rfl rfl rfl _ _ _ (conjRow (refTags V0) b i) b i
      (ref_conj V0 b i) ⟨x.val - 192 - 192, h3⟩).trans ((hC _ _).trans ?_)
    exact congrArg (fun z => ((C _ z : ℝ) : EReal)) (Fin.ext (Nat.sub_sub ..))
  · refine (dif_neg h3).trans ?_
    rw [embed_place _ _ _ _ _ _ _ _ (by omega)]
    refine (congrArg₂ (fun x y : EReal => x + y) ?_ (hr _)).trans (add_zero _)
    have hlen : (FloatOps.sitofp .f32 (V0 (Proc.devRef .tc main_arg2) (ix1 b)) : Ideal .f32) = (((refLens V0 (ix1 b)).toInt : ℝ) : EReal) := rfl
    have hat : (⟨x.val - 192 - 192 - 192, by omega⟩ : Fin 192) = ⟨x.val - 576, by omega⟩ := Fin.ext (by show x.val - 192 - 192 - 192 = x.val - 576; omega)
    rw [hlen, Fin.sum_univ_one, hat, ref_place]
    refine (congrArg₂ (fun x y : EReal => x * y) ?_ (hR 0 _)).trans (EReal.coe_mul _ _).symm
    rw [← EReal.coe_one, ← coe_max, div_real _ (lt_of_lt_of_le one_pos (le_max_left _ _)).ne', max_comm]

/-- The gelu of the reference. -/
theorem ref_gelu (b : Fin 4) (i : Fin 2048) (h : Fin 768 → ℝ) (hh : ∀ n, res_main_v93 (F := Ideal) V0 (ix3 b i n) = ((h n : ℝ) : EReal)) (n : Fin 768) :
    res_main_v102 (F := Ideal) V0 (ix3 b i n) = ((gelu (h n) : ℝ) : EReal) := by
  unfold res_main_v102
  pointwise [id]
  rw [hh, ofBits_half, ofBits_two, sqrt_pos' (by norm_num), div_real _ (Real.sqrt_pos.2 (by norm_num)).ne', erf_real, ← EReal.coe_one, ← EReal.coe_mul,
    ← EReal.coe_add, ← EReal.coe_mul]
  rfl

/-- The mean of a row of the reference. -/
theorem ref_mean (b : Fin 4) (i : Fin 2048) (g : Fin 768 → ℝ) (hg : ∀ n, res_main_v102 (F := Ideal) V0 (ix3 b i n) = ((g n : ℝ) : EReal)) :
    res_main_v106 (F := Ideal) V0 (ix3 b i 0) = ((mean g : ℝ) : EReal) := by
  unfold res_main_v106
  pointwise [id]
  simp only [hg]
  rw [ofBits_768, ← coe_sum, div_real _ (by norm_num)]
  rfl

/-- A row of the reference with its mean taken off. -/
theorem ref_centred (b : Fin 4) (i : Fin 2048) (g : Fin 768 → ℝ) (hg : ∀ n, res_main_v102 (F := Ideal) V0 (ix3 b i n) = ((g n : ℝ) : EReal)) (n : Fin 768) :
    res_main_v108 (F := Ideal) V0 (ix3 b i n) = ((g n - mean g : ℝ) : EReal) := by
  unfold res_main_v108
  pointwise [id]
  rw [hg, ref_mean V0 b i g hg]
  rfl

end Cert.Proof

end
-- ==== Proof.Pre.lean ====
/- What the precondition says of the arguments: the tables and the matrix are finite, the two biases and the shift are zero, the scale is one. -/
module

public import proofs.«01_k».proof.Proof.Gen.Pre_as_initialised
public import proofs.«01_k».proof.Proof.RefValue

@[expose] public section

set_option maxRecDepth 16384

noncomputable section

namespace Cert.Proof

open Idealize.ShloMosaic Cert.Pre_as_initialised

theorem andi_one (a b : BitVec 1) : IntOp.andi a b = 1#1 ↔ a = 1#1 ∧ b = 1#1 := by revert a b; decide

theorem ofBool_one (p : Bool) : BitVec.ofBool p = 1#1 ↔ p = true := by cases p <;> decide

/-- The conjunction of a family of bits is one only if each of them is. -/
theorem fold_andi {ι : Type} [Std.Commutative (IntOp.andi : BitVec 1 → BitVec 1 → BitVec 1)] [Std.Associative (IntOp.andi : BitVec 1 → BitVec 1 → BitVec 1)]
    (s : Finset ι) (f : ι → BitVec 1) (h : s.fold IntOp.andi 1#1 f = 1#1) : ∀ i ∈ s, f i = 1#1 := by
  classical
  induction s using Finset.induction_on with
  | empty => intro i hi; exact absurd hi (Finset.notMem_empty i)
  | insert a s ha ih =>
    rw [Finset.fold_insert ha, andi_one] at h
    intro i hi
    rcases Finset.mem_insert.1 hi with rfl | hi
    · exact h.1
    · exact ih h.2 i hi

/-- An array of bits whose conjunction is one has ones only. -/
theorem all_one {S : Shape} {dims : List (Fin S.rank)} (x : IVec S 1) (hr : S.ReducesTo dims S_) (hu : 0 < S_.numel) (j : S_.Idx)
    (h : Host.reduce IntOp.andi x (constantI S_ 1 1#1) hr hu j = 1#1) (i : S.Idx) : x i = 1#1 := by
  rw [Host.reduce_eq_fold] at h
  refine fold_andi _ _ h i ?_
  rw [Finset.mem_filter]
  exact ⟨Finset.mem_univ _, funext fun a => a.elim0⟩

/-- A number whose size is below infinity is a real. -/
theorem finite_real (x : EReal) (h : FloatOps.cmpf (F := Ideal) (φ := .f32) .olt (FloatOps.absf (F := Ideal) (φ := .f32) x) (Ideal.ofBits .f32 0x7F800000#32) = 1#1) :
    ∃ r : ℝ, x = (r : EReal) := by
  rw [ofBits_inf] at h
  have h' : max x (-x) < ⊤ := by
    have : BitVec.ofBool (decide (max x (-x) < (⊤ : EReal))) = 1#1 := h
    rw [ofBool_one, decide_eq_true_iff] at this
    exact this
  induction x with
  | bot => simp at h'
  | top => simp at h'
  | coe r => exact ⟨r, rfl⟩

/-- A number that compares equal to another is the other. -/
theorem equal_of_oeq (x y : EReal) (h : FloatOps.cmpf (F := Ideal) (φ := .f32) .oeq x y = 1#1) : x = y := by
  have : BitVec.ofBool (decide (x = y)) = 1#1 := h
  rwa [ofBool_one, decide_eq_true_iff] at this

variable (a0 : IVec S4x2048 32) (a1 : IVec S4x2048 32) (a2 : IVec S4 32) (a3 : IVec S4x2048 1) (D : FVec Ideal S8x192 .f32) (V : FVec Ideal S33x192 .f32)
  (C : FVec Ideal S8x192 .f32) (R : FVec Ideal S1x192 .f32) (rb : FVec Ideal S192 .f32) (W : FVec Ideal S768x768 .f32) (fb : FVec Ideal S768 .f32)
  (g : FVec Ideal S768 .f32) (b : FVec Ideal S768 .f32)

/-- The precondition, read. -/
theorem pre_read [Facts] (h : fn (F := Ideal) a0 a1 a2 a3 D V C R rb W fb g b = fun _ => 1#1) :
    (∀ i, ∃ r : ℝ, D i = (r : EReal)) ∧ (∀ i, ∃ r : ℝ, V i = (r : EReal)) ∧ (∀ i, ∃ r : ℝ, C i = (r : EReal)) ∧ (∀ i, ∃ r : ℝ, R i = (r : EReal))
      ∧ (∀ i, ∃ r : ℝ, W i = (r : EReal)) ∧ (∀ i, rb i = (0 : EReal)) ∧ (∀ i, fb i = (0 : EReal)) ∧ (∀ i, g i = (1 : EReal)) ∧ ∀ i, b i = (0 : EReal) := by
  have h' := congrFun h (Shape.Idx.first Facts.h_S_)
  simp only [fn, fn_part1, fn_part2, andi, andi_one] at h'
  obtain ⟨⟨⟨⟨⟨⟨⟨⟨hD, hV⟩, hC⟩, hR⟩, hW⟩, hrb⟩, hfb⟩, hg⟩, hb⟩ := h'
  have z : Ideal.ofBits .f32 0x00000000#32 = (0 : EReal) := by simp [Ideal.ofBits, Ideal.ieee]
  refine ⟨fun i => finite_real _ (all_one _ _ _ _ hD i), fun i => finite_real _ (all_one _ _ _ _ hV i), fun i => finite_real _ (all_one _ _ _ _ hC i),
    fun i => finite_real _ (all_one _ _ _ _ hR i), fun i => finite_real _ (all_one _ _ _ _ hW i), fun i => ?_, fun i => ?_, fun i => ?_, fun i => ?_⟩
  · exact (equal_of_oeq _ _ (all_one _ _ _ _ hrb i)).trans z
  · exact (equal_of_oeq _ _ (all_one _ _ _ _ hfb i)).trans z
  · exact (equal_of_oeq _ _ (all_one _ _ _ _ hg i)).trans (ofBits_one.trans EReal.coe_one)
  · exact (equal_of_oeq _ _ (all_one _ _ _ _ hb i)).trans z

end Cert.Proof

end
-- ==== Proof.Same.lean ====
/- Kernel and reference, started on the same arguments that meet the precondition, end with the same result. -/
module

public import proofs.«01_k».proof.Defs
public import proofs.«01_k».proof.Proof.Gen.KernelIdeal.Value
public import proofs.«01_k».proof.Proof.Outs
public import proofs.«01_k».proof.Proof.Pre

@[expose] public section

set_option maxRecDepth 16384

noncomputable section

namespace Cert.Proof

open Idealize.ShloMosaic Idealize.SL.Sem

section
open Cert.ReferenceIdeal Cert.ReferenceIdeal.Value

/-- What the reference returns is, at every word, the answer over the real tables. -/
theorem ref_answer (V0 : Valuation τ sig (Elt Ideal)) (D : Fin 8 → Fin 192 → ℝ) (V : Fin 33 → Fin 192 → ℝ) (C : Fin 8 → Fin 192 → ℝ) (R : Fin 1 → Fin 192 → ℝ)
    (W : Fin 768 → Fin 768 → ℝ)
    (hD : ∀ p q, V0 (Proc.devRef .tc main_arg4) (ix2 p q) = ((D p q : ℝ) : EReal))
    (hV : ∀ p q, V0 (Proc.devRef .tc main_arg5) (ix2 p q) = ((V p q : ℝ) : EReal))
    (hC : ∀ p q, V0 (Proc.devRef .tc main_arg6) (ix2 p q) = ((C p q : ℝ) : EReal))
    (hR : ∀ p q, V0 (Proc.devRef .tc main_arg7) (ix2 p q) = ((R p q : ℝ) : EReal))
    (hr : ∀ q, V0 (Proc.devRef .tc main_arg8) (ix1 q) = (0 : EReal))
    (hW : ∀ p q, V0 (Proc.devRef .tc main_arg9) (ix2 p q) = ((W p q : ℝ) : EReal))
    (hb : ∀ q, V0 (Proc.devRef .tc main_arg10) (ix1 q) = (0 : EReal))
    (b : Fin 4) (i : Fin 2048) (n : Fin 768) :
    Host.divf (subf (res_main_v102 (F := Ideal) V0) (broadcastInDim S4x2048x768 ![0, 1, 2] Gen.bcast_S4x2048x1_S4x2048x768_0_1_2 (res_main_v106 V0)))
      (broadcastInDim S4x2048x768 ![0, 1, 2] Gen.bcast_S4x2048x1_S4x2048x768_0_1_2 (Host.sqrt (addf (Host.divf
        (broadcastInDim S4x2048x1 ![0, 1] Gen.bcast_S4x2048_S4x2048x1_0_1 (Host.reduceAdd (mulf (res_main_v108 V0) (res_main_v108 V0))
          (constant S_ .f32 0x00000000#32) Gen.reducesTo_S4x2048x768_S4x2048_d2 Gen.h_S_))
        (broadcastInDim S4x2048x1 ![] Gen.bcast_S_S4x2048x1 (constant S_ .f32 0x44400000#32)))
        (broadcastInDim S4x2048x1 ![] Gen.bcast_S_S4x2048x1 (constant S_ .f32 0x3727C5AC#32))))) (ix3 b i n)
      = ((answer D V C R W (refTags V0) (refLens V0) b i n : ℝ) : EReal) := by
  have hh := ref_linear V0 D V C R W hD hV hC hR hr hW hb b i
  have hg := ref_gelu V0 b i _ hh
  have hm := ref_mean V0 b i _ hg
  have hc := ref_centred V0 b i _ hg
  pointwise [id]
  simp only [hg, hm, hc]
  rw [ofBits_768, ofBits_tiny]
  simp only [← EReal.coe_mul]
  rw [← coe_sum, div_real _ (by norm_num), ← EReal.coe_add]
  have hs : ∀ g : Fin 768 → ℝ, (∑ x, (g x - mean g) * (g x - mean g)) / 768 = spread g := fun _ => rfl
  have hp : ∀ g : Fin 768 → ℝ, 0 < spread g + tiny := fun g => add_pos_of_nonneg_of_pos (spread_nonneg g) tiny_pos
  rw [hs, sqrt_pos' (hp _).le, ← EReal.coe_sub, div_real _ (Real.sqrt_pos.2 (hp _)).ne']
  rfl

/-- A scale of ones and a shift of zeros change nothing. -/
theorem scale_shift (x : FVec Ideal S4x2048x768 .f32) (g h : FVec Ideal S768 .f32) (hg : ∀ i, g i = (1 : EReal)) (hh : ∀ i, h i = (0 : EReal))
    (b : Fin 4) (i : Fin 2048) (n : Fin 768) :
    addf (mulf x (broadcastInDim S4x2048x768 ![0, 1, 2] Gen.bcast_S1x1x768_S4x2048x768_0_1_2 (broadcastInDim S1x1x768 ![2] Gen.bcast_S768_S1x1x768_2 g)))
      (broadcastInDim S4x2048x768 ![0, 1, 2] Gen.bcast_S1x1x768_S4x2048x768_0_1_2 (broadcastInDim S1x1x768 ![2] Gen.bcast_S768_S1x1x768_2 h)) (ix3 b i n)
      = x (ix3 b i n) := by
  pointwise
  rw [hg, hh, mul_one, add_zero]

end

/-- An index of two axes is its two coordinates. -/
theorem pair_eta {a b : ℕ} (j : (⟨2, ![a, b]⟩ : Shape).Idx) : ix2 (j 0) (j 1) = j := by
  funext x
  match x with
  | ⟨0, _⟩ => rfl
  | ⟨1, _⟩ => rfl

/-- An index of three axes is its three coordinates. -/
theorem triple_eta {a b c : ℕ} (j : (⟨3, ![a, b, c]⟩ : Shape).Idx) : ix3 (j 0) (j 1) (j 2) = j := by
  funext x
  match x with
  | ⟨0, _⟩ => rfl
  | ⟨1, _⟩ => rfl
  | ⟨2, _⟩ => rfl

/-- Kernel and reference return the same array, over the extended reals, from the same arguments where these meet the precondition. -/
theorem algebraic : Cert.algebraic_KernelIdeal_ReferenceIdeal_pre_as_initialised (hKernelIdeal := Cert.KernelIdeal.Gen.facts)
    (hReferenceIdeal := Cert.ReferenceIdeal.Gen.facts) (hPre_as_initialised := Cert.Pre_as_initialised.Gen.facts) := by
  intro m g m' g' hpre hsame
  refine ⟨fun c => _, Cert.KernelIdeal.Value.run_blocks m g, ?_⟩
  refine (θ_run Cert.ReferenceIdeal.defs _ _).mono (fun r h c => ⟨(h c).1.trans ?_, (h c).2⟩) (Cert.ReferenceIdeal.Value.run m' g')
  obtain ⟨hD, hV, hC, hR, hW, hr, hb, hg, hs⟩ := pre_read _ _ _ _ _ _ _ _ _ _ _ _ _ (hpre c)
  obtain ⟨e0, e1, e2, e3, e4, e5, e6, e7, e8, e9, e10, e11, e12⟩ := hsame c
  choose D hD using hD
  choose V hV using hV
  choose C hC using hC
  choose R hR using hR
  choose W hW using hW
  refine Eq.trans ?_ (result_eq m c).symm
  have tD := funext fun j => (hD j).trans (congrArg (fun z => ((D z : ℝ) : EReal)) (pair_eta j).symm)
  have tV := funext fun j => (hV j).trans (congrArg (fun z => ((V z : ℝ) : EReal)) (pair_eta j).symm)
  have tC := funext fun j => (hC j).trans (congrArg (fun z => ((C z : ℝ) : EReal)) (pair_eta j).symm)
  have tR := funext fun j => (hR j).trans (congrArg (fun z => ((R z : ℝ) : EReal)) (pair_eta j).symm)
  have tW := funext fun j => (hW j).trans (congrArg (fun z => ((W z : ℝ) : EReal)) (pair_eta j).symm)
  funext j
  rw [← triple_eta j]
  generalize j 0 = b, j 1 = s, j 2 = n
  have hk := kernelOut_apply (fun p q => D (ix2 p q)) (fun p q => V (ix2 p q)) (fun p q => C (ix2 p q)) (fun p q => R (ix2 p q)) (fun p q => W (ix2 p q))
    (m ((c.tc : Thread Cert.KernelIdeal.nD Cert.KernelIdeal.τ).loc Cert.KernelIdeal.main_arg1)) (m ((c.tc : Thread Cert.KernelIdeal.nD Cert.KernelIdeal.τ).loc Cert.KernelIdeal.main_arg2)) b s n
  have ha := ref_answer (StableHlo.launchContents m' c) (fun p q => D (ix2 p q)) (fun p q => V (ix2 p q)) (fun p q => C (ix2 p q))
    (fun p q => R (ix2 p q)) (fun p q => W (ix2 p q)) (fun p q => (congrFun e4 _).trans (hD _)) (fun p q => (congrFun e5 _).trans (hV _))
    (fun p q => (congrFun e6 _).trans (hC _)) (fun p q => (congrFun e7 _).trans (hR _)) (fun q => (congrFun e8 _).trans (hr _))
    (fun p q => (congrFun e9 _).trans (hW _)) (fun q => (congrFun e10 _).trans (hb _)) b s n
  rw [tD, tV, tC, tR, tW]
  refine ((scale_shift _ _ _ (fun i => (congrFun e11 i).trans (hg i)) (fun i => (congrFun e12 i).trans (hs i)) b s n).trans ha).trans (Eq.trans ?_ hk.symm)
  have eT : refTags (StableHlo.launchContents m' c) = m ((c.tc : Thread Cert.KernelIdeal.nD Cert.KernelIdeal.τ).loc Cert.KernelIdeal.main_arg1) := e1
  have eL : refLens (StableHlo.launchContents m' c) = m ((c.tc : Thread Cert.KernelIdeal.nD Cert.KernelIdeal.τ).loc Cert.KernelIdeal.main_arg2) := e2
  rw [eT, eL]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_as_initialised
public import proofs.«01_k».proof.Proof.Frames
public import proofs.«01_k».proof.Proof.Same
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_as_initialised.Gen.facts,
    frame_kernel, frame_ideal, fun m ρ _ => frame_ideal m ρ trivial, frame_reference, fun m ρ _ => frame_reference m ρ trivial, preserves, algebraic⟩

end Cert.Proof

end
